-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S16384x512 : Shape := ⟨2, ![16384, 512]⟩
abbrev S512x1024 : Shape := ⟨2, ![512, 1024]⟩
abbrev S1024 : Shape := ⟨1, ![1024]⟩
abbrev S1024x1024 : Shape := ⟨2, ![1024, 1024]⟩
abbrev S1024x385 : Shape := ⟨2, ![1024, 385]⟩
abbrev S385 : Shape := ⟨1, ![385]⟩
abbrev S16384x1 : Shape := ⟨2, ![16384, 1]⟩
abbrev S_ : Shape := ⟨0, ![]⟩
abbrev S1024x512 : Shape := ⟨2, ![1024, 512]⟩
abbrev S512 : Shape := ⟨1, ![512]⟩
abbrev S1x512 : Shape := ⟨2, ![1, 512]⟩
abbrev S1x1024 : Shape := ⟨2, ![1, 1024]⟩
abbrev S2048x1 : Shape := ⟨2, ![2048, 1]⟩
abbrev S2048x512 : Shape := ⟨2, ![2048, 512]⟩
abbrev S2048x1024 : Shape := ⟨2, ![2048, 1024]⟩
abbrev S128x128 : Shape := ⟨2, ![128, 128]⟩
abbrev S2048x128 : Shape := ⟨2, ![2048, 128]⟩
abbrev S2048 : Shape := ⟨1, ![2048]⟩
abbrev S1x128 : Shape := ⟨2, ![1, 128]⟩

abbrev nBuf : Space → Nat
  | .hbm => 22
  | .vmem => 14
  | .smem => 0
  | _ => 0

abbrev bufTy : (tb : Table) → Fin (tcTables nBuf tb) → BufTy
  | .hbm, ⟨0, _⟩ => ⟨S16384, .f32⟩
  | .hbm, ⟨1, _⟩ => ⟨S16384x512, .f32⟩
  | .hbm, ⟨2, _⟩ => ⟨S512x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x385, .f32⟩
  | .hbm, ⟨7, _⟩ => ⟨S385, .f32⟩
  | .hbm, ⟨8, _⟩ => ⟨S16384x1, .f32⟩
  | .hbm, ⟨9, _⟩ => ⟨S_, .i32⟩
  | .hbm, ⟨10, _⟩ => ⟨S_, .f32⟩
  | .hbm, ⟨11, _⟩ => ⟨S1024x512, .f32⟩
  | .hbm, ⟨12, _⟩ => ⟨S_, .i32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S1x1024, .f32⟩
  | .hbm, ⟨17, _⟩ => ⟨S1x1024, .f32⟩
  | .hbm, ⟨18, _⟩ => ⟨S16384x1, .f32⟩
  | .hbm, ⟨19, _⟩ => ⟨S16384x1, .f32⟩
  | .hbm, ⟨20, _⟩ => ⟨S16384, .f32⟩
  | .hbm, ⟨21, _⟩ => ⟨S16384, .f32⟩
  | .local _ .vmem, ⟨0, _⟩ => ⟨S2048x1, .f32⟩
  | .local _ .vmem, ⟨1, _⟩ => ⟨S2048x1, .f32⟩
  | .local _ .vmem, ⟨2, _⟩ => ⟨S2048x512, .f32⟩
  | .local _ .vmem, ⟨3, _⟩ => ⟨S2048x512, .f32⟩
  | .local _ .vmem, ⟨4, _⟩ => ⟨S512x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S1024x512, .f32⟩
  | .local _ .vmem, ⟨9, _⟩ => ⟨S1x512, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_c : Ref sig .tc := ⟨.hbm, 9, rfl⟩
abbrev main_call0_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_call1_v0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6_0 : Ref sig .tc := ⟨.hbm, 18, rfl⟩
abbrev main_call0_v6_1 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384 : Shape := ⟨1, ![16384]⟩
abbrev S16384x512 : Shape := ⟨2, ![16384, 512]⟩
abbrev S512x1024 : Shape := ⟨2, ![512, 1024]⟩
abbrev S1024 : Shape := ⟨1, ![1024]⟩
abbrev S1024x1024 : Shape := ⟨2, ![1024, 1024]⟩
abbrev S1024x385 : Shape := ⟨2, ![1024, 385]⟩
abbrev S385 : Shape := ⟨1, ![385]⟩
abbrev S16384x1024 : Shape := ⟨2, ![16384, 1024]⟩
abbrev S1x1024 : Shape := ⟨2, ![1, 1024]⟩
abbrev S_ : Shape := ⟨0, ![]⟩
abbrev S16384x385 : Shape := ⟨2, ![16384, 385]⟩
abbrev S1x385 : Shape := ⟨2, ![1, 385]⟩
abbrev S16384x128 : Shape := ⟨2, ![16384, 128]⟩
abbrev S16384x129 : Shape := ⟨2, ![16384, 129]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 332
  | .vmem => 0
  | .smem => 0
  | _ => 0

abbrev hbmTy0_0 (i : Nat) : BufTy := match i % 128 with
  | 0 => ⟨S16384, .f32⟩
  | 1 => ⟨S16384x512, .f32⟩
  | 2 => ⟨S512x1024, .f32⟩
  | 3 => ⟨S1024, .f32⟩
  | 4 => ⟨S1024x1024, .f32⟩
  | 5 => ⟨S1024, .f32⟩
  | 6 => ⟨S1024x385, .f32⟩
  | 7 => ⟨S385, .f32⟩
  | 8 => ⟨S16384x1024, .f32⟩
  | 9 => ⟨S1x1024, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S_, .f32⟩
  | 20 => ⟨S16384x1024, .f32⟩
  | 21 => ⟨S16384x1024, .f32⟩
  | 22 => ⟨S16384x385, .f32⟩
  | 23 => ⟨S1x385, .f32⟩
  | 24 => ⟨S16384x385, .f32⟩
  | 25 => ⟨S16384x385, .f32⟩
  | 26 => ⟨S16384x128, .f32⟩
  | 27 => ⟨S16384x128, .f32⟩
  | 28 => ⟨S16384x129, .f32⟩
  | 29 => ⟨S_, .f32⟩
  | 30 => ⟨S16384, .f32⟩
  | 31 => ⟨S_, .f32⟩
  | 32 => ⟨S16384, .f32⟩
  | 33 => ⟨S16384, .f32⟩
  | 34 => ⟨S16384x1, .f32⟩
  | 35 => ⟨S16384x128, .f32⟩
  | 36 => ⟨S16384x128, .f32⟩
  | 37 => ⟨S16384x128, .f32⟩
  | 38 => ⟨S_, .f32⟩
  | 39 => ⟨S16384, .f32⟩
  | 40 => ⟨S16384x1, .f32⟩
  | 41 => ⟨S16384x128, .f32⟩
  | 42 => ⟨S16384x128, .f32⟩
  | 43 => ⟨S_, .f32⟩
  | 44 => ⟨S16384, .f32⟩
  | 45 => ⟨S_, .f32⟩
  | 46 => ⟨S16384, .f32⟩
  | 47 => ⟨S16384, .f32⟩
  | 48 => ⟨S16384x1, .f32⟩
  | 49 => ⟨S16384x128, .f32⟩
  | 50 => ⟨S16384x128, .f32⟩
  | 51 => ⟨S16384x128, .f32⟩
  | 52 => ⟨S_, .f32⟩
  | 53 => ⟨S16384, .f32⟩
  | 54 => ⟨S16384x1, .f32⟩
  | 55 => ⟨S16384x128, .f32⟩
  | 56 => ⟨S16384x128, .f32⟩
  | 57 => ⟨S_, .f32⟩
  | 58 => ⟨S16384x128, .f32⟩
  | 59 => ⟨S16384x128, .f32⟩
  | 60 => ⟨S_, .f32⟩
  | 61 => ⟨S16384x128, .f32⟩
  | 62 => ⟨S16384x128, .f32⟩
  | 63 => ⟨S_, .f32⟩
  | 64 => ⟨S16384x128, .f32⟩
  | 65 => ⟨S16384x128, .f32⟩
  | 66 => ⟨S_, .f32⟩
  | 67 => ⟨S16384x128, .f32⟩
  | 68 => ⟨S16384x128, .f32⟩
  | 69 => ⟨S_, .f32⟩
  | 70 => ⟨S_, .f32⟩
  | 71 => ⟨S16384x128, .f32⟩
  | 72 => ⟨S_, .f32⟩
  | 73 => ⟨S_, .f32⟩
  | 74 => ⟨S16384x128, .f32⟩
  | 75 => ⟨S_, .i32⟩
  | 76 => ⟨S_, .f32⟩
  | 77 => ⟨S16384x129, .f32⟩
  | 78 => ⟨S_, .f32⟩
  | 79 => ⟨S16384x129, .f32⟩
  | 80 => ⟨S16384x129, .f32⟩
  | 81 => ⟨S_, .i32⟩
  | 82 => ⟨S_, .f32⟩
  | 83 => ⟨S16384x129, .f32⟩
  | 84 => ⟨S_, .f32⟩
  | 85 => ⟨S16384x129, .f32⟩
  | 86 => ⟨S16384x129, .f32⟩
  | 87 => ⟨S_, .f32⟩
  | 88 => ⟨S16384x129, .f32⟩
  | 89 => ⟨S16384x129, .f32⟩
  | 90 => ⟨S16384x129, .f32⟩
  | 91 => ⟨S16384x129, .f32⟩
  | 92 => ⟨S16384x129, .i1⟩
  | 93 => ⟨S16384x129, .f32⟩
  | 94 => ⟨S16384x129, .f32⟩
  | 95 => ⟨S16384x129, .f32⟩
  | 96 => ⟨S16384x129, .f32⟩
  | 97 => ⟨S16384x129, .f32⟩
  | 98 => ⟨S16384x129, .f32⟩
  | 99 => ⟨S16384x129, .f32⟩
  | 100 => ⟨S16384x129, .f32⟩
  | 101 => ⟨S_, .f32⟩
  | 102 => ⟨S16384x129, .f32⟩
  | 103 => ⟨S16384x129, .f32⟩
  | 104 => ⟨S_, .f32⟩
  | 105 => ⟨S_, .f32⟩
  | 106 => ⟨S_, .f32⟩
  | 107 => ⟨S16384, .f32⟩
  | 108 => ⟨S16384, .f32⟩
  | 109 => ⟨S_, .f32⟩
  | 110 => ⟨S16384, .f32⟩
  | 111 => ⟨S16384, .f32⟩
  | 112 => ⟨S16384x1, .f32⟩
  | 113 => ⟨S16384x128, .f32⟩
  | 114 => ⟨S16384x128, .f32⟩
  | 115 => ⟨S16384x128, .i1⟩
  | 116 => ⟨S16384x128, .i32⟩
  | 117 => ⟨S_, .i32⟩
  | 118 => ⟨S16384, .i32⟩
  | 119 => ⟨S_, .i32⟩
  | 120 => ⟨S_, .i32⟩
  | 121 => ⟨S_, .i32⟩
  | 122 => ⟨S16384, .i32⟩
  | 123 => ⟨S16384, .i32⟩
  | 124 => ⟨S_, .i32⟩
  | 125 => ⟨S16384, .i32⟩
  | 126 => ⟨S16384, .i32⟩
  | 127 => ⟨S16384x1, .i32⟩
  | _ => ⟨S16384, .f32⟩

abbrev hbmTy0_1 (i : Nat) : BufTy := match i % 128 with
  | 0 => ⟨S_, .i32⟩
  | 1 => ⟨S16384x1, .i32⟩
  | 2 => ⟨S16384x1, .i1⟩
  | 3 => ⟨S_, .i32⟩
  | 4 => ⟨S16384x1, .i32⟩
  | 5 => ⟨S16384x1, .i32⟩
  | 6 => ⟨S16384x1, .i32⟩
  | 7 => ⟨S16384x1x1, .i32⟩
  | 8 => ⟨S1, .i32⟩
  | 9 => ⟨S_, .i32⟩
  | 10 => ⟨S16384x1x1, .i32⟩
  | 11 => ⟨S16384x1x1, .i1⟩
  | 12 => ⟨S1x1x1, .i32⟩
  | 13 => ⟨S16384x1x1, .i32⟩
  | 14 => ⟨S16384x1x1, .i1⟩
  | 15 => ⟨S16384x1x1, .i1⟩
  | 16 => ⟨S_, .i1⟩
  | 17 => ⟨S16384x1, .i1⟩
  | 18 => ⟨S16384x1, .f32⟩
  | 19 => ⟨S_, .f32⟩
  | 20 => ⟨S16384x1, .f32⟩
  | 21 => ⟨S16384x1, .f32⟩
  | 22 => ⟨S16384, .f32⟩
  | 23 => ⟨S16384x1, .i32⟩
  | 24 => ⟨S_, .i32⟩
  | 25 => ⟨S16384x1, .i32⟩
  | 26 => ⟨S16384x1, .i1⟩
  | 27 => ⟨S_, .i32⟩
  | 28 => ⟨S16384x1, .i32⟩
  | 29 => ⟨S16384x1, .i32⟩
  | 30 => ⟨S16384x1, .i32⟩
  | 31 => ⟨S16384x1x1, .i32⟩
  | 32 => ⟨S1, .i32⟩
  | 33 => ⟨S_, .i32⟩
  | 34 => ⟨S16384x1x1, .i32⟩
  | 35 => ⟨S16384x1x1, .i1⟩
  | 36 => ⟨S1x1x1, .i32⟩
  | 37 => ⟨S16384x1x1, .i32⟩
  | 38 => ⟨S16384x1x1, .i1⟩
  | 39 => ⟨S16384x1x1, .i1⟩
  | 40 => ⟨S_, .i1⟩
  | 41 => ⟨S16384x1, .i1⟩
  | 42 => ⟨S16384x1, .f32⟩
  | 43 => ⟨S_, .f32⟩
  | 44 => ⟨S16384x1, .f32⟩
  | 45 => ⟨S16384x1, .f32⟩
  | 46 => ⟨S16384, .f32⟩
  | 47 => ⟨S16384x1, .i32⟩
  | 48 => ⟨S_, .i32⟩
  | 49 => ⟨S16384x1, .i32⟩
  | 50 => ⟨S16384x1, .i1⟩
  | 51 => ⟨S_, .i32⟩
  | 52 => ⟨S16384x1, .i32⟩
  | 53 => ⟨S16384x1, .i32⟩
  | 54 => ⟨S16384x1, .i32⟩
  | 55 => ⟨S16384x1x1, .i32⟩
  | 56 => ⟨S1, .i32⟩
  | 57 => ⟨S_, .i32⟩
  | 58 => ⟨S16384x1x1, .i32⟩
  | 59 => ⟨S16384x1x1, .i1⟩
  | 60 => ⟨S1x1x1, .i32⟩
  | 61 => ⟨S16384x1x1, .i32⟩
  | 62 => ⟨S16384x1x1, .i1⟩
  | 63 => ⟨S16384x1x1, .i1⟩
  | 64 => ⟨S_, .i1⟩
  | 65 => ⟨S16384x1, .i1⟩
  | 66 => ⟨S16384x1, .f32⟩
  | 67 => ⟨S_, .f32⟩
  | 68 => ⟨S16384x1, .f32⟩
  | 69 => ⟨S16384x1, .f32⟩
  | 70 => ⟨S16384, .f32⟩
  | 71 => ⟨S16384x1, .i32⟩
  | 72 => ⟨S_, .i32⟩
  | 73 => ⟨S16384x1, .i32⟩
  | 74 => ⟨S16384x1, .i1⟩
  | 75 => ⟨S_, .i32⟩
  | 76 => ⟨S16384x1, .i32⟩
  | 77 => ⟨S16384x1, .i32⟩
  | 78 => ⟨S16384x1, .i32⟩
  | 79 => ⟨S16384x1x1, .i32⟩
  | 80 => ⟨S1, .i32⟩
  | 81 => ⟨S_, .i32⟩
  | 82 => ⟨S16384x1x1, .i32⟩
  | 83 => ⟨S16384x1x1, .i1⟩
  | 84 => ⟨S1x1x1, .i32⟩
  | 85 => ⟨S16384x1x1, .i32⟩
  | 86 => ⟨S16384x1x1, .i1⟩
  | 87 => ⟨S16384x1x1, .i1⟩
  | 88 => ⟨S_, .i1⟩
  | 89 => ⟨S16384x1, .i1⟩
  | 90 => ⟨S16384x1, .f32⟩
  | 91 => ⟨S_, .f32⟩
  | 92 => ⟨S16384x1, .f32⟩
  | 93 => ⟨S16384x1, .f32⟩
  | 94 => ⟨S16384, .f32⟩
  | 95 => ⟨S16384, .f32⟩
  | 96 => ⟨S16384x1, .i32⟩
  | 97 => ⟨S_, .i32⟩
  | 98 => ⟨S16384x1, .i32⟩
  | 99 => ⟨S16384x1, .i1⟩
  | 100 => ⟨S_, .i32⟩
  | 101 => ⟨S16384x1, .i32⟩
  | 102 => ⟨S16384x1, .i32⟩
  | 103 => ⟨S16384x1, .i32⟩
  | 104 => ⟨S16384x1x1, .i32⟩
  | 105 => ⟨S1, .i32⟩
  | 106 => ⟨S_, .i32⟩
  | 107 => ⟨S16384x1x1, .i32⟩
  | 108 => ⟨S16384x1x1, .i1⟩
  | 109 => ⟨S1x1x1, .i32⟩
  | 110 => ⟨S16384x1x1, .i32⟩
  | 111 => ⟨S16384x1x1, .i1⟩
  | 112 => ⟨S16384x1x1, .i1⟩
  | 113 => ⟨S_, .i1⟩
  | 114 => ⟨S16384x1, .i1⟩
  | 115 => ⟨S16384x1, .f32⟩
  | 116 => ⟨S_, .f32⟩
  | 117 => ⟨S16384x1, .f32⟩
  | 118 => ⟨S16384x1, .f32⟩
  | 119 => ⟨S16384, .f32⟩
  | 120 => ⟨S_, .i32⟩
  | 121 => ⟨S16384, .i32⟩
  | 122 => ⟨S16384, .i32⟩
  | 123 => ⟨S16384x1, .i32⟩
  | 124 => ⟨S_, .i32⟩
  | 125 => ⟨S16384x1, .i32⟩
  | 126 => ⟨S16384x1, .i1⟩
  | 127 => ⟨S_, .i32⟩
  | _ => ⟨S16384, .f32⟩

abbrev hbmTy0_2 (i : Nat) : BufTy := match i % 128 with
  | 0 => ⟨S16384x1, .i32⟩
  | 1 => ⟨S16384x1, .i32⟩
  | 2 => ⟨S16384x1, .i32⟩
  | 3 => ⟨S16384x1x1, .i32⟩
  | 4 => ⟨S1, .i32⟩
  | 5 => ⟨S_, .i32⟩
  | 6 => ⟨S16384x1x1, .i32⟩
  | 7 => ⟨S16384x1x1, .i1⟩
  | 8 => ⟨S1x1x1, .i32⟩
  | 9 => ⟨S16384x1x1, .i32⟩
  | 10 => ⟨S16384x1x1, .i1⟩
  | 11 => ⟨S16384x1x1, .i1⟩
  | 12 => ⟨S_, .i1⟩
  | 13 => ⟨S16384x1, .i1⟩
  | 14 => ⟨S16384x1, .f32⟩
  | 15 => ⟨S_, .f32⟩
  | 16 => ⟨S16384x1, .f32⟩
  | 17 => ⟨S16384x1, .f32⟩
  | 18 => ⟨S16384, .f32⟩
  | 19 => ⟨S16384, .f32⟩
  | 20 => ⟨S16384, .f32⟩
  | 21 => ⟨S_, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S_, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S_, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S_, .f32⟩
  | 55 => ⟨S_, .f32⟩
  | 56 => ⟨S16384, .f32⟩
  | 57 => ⟨S16384, .f32⟩
  | 58 => ⟨S_, .f32⟩
  | 59 => ⟨S_, .f32⟩
  | 60 => ⟨S16384, .f32⟩
  | 61 => ⟨S16384, .f32⟩
  | 62 => ⟨S16384, .f32⟩
  | 63 => ⟨S16384, .f32⟩
  | 64 => ⟨S16384, .f32⟩
  | 65 => ⟨S_, .f32⟩
  | 66 => ⟨S16384, .f32⟩
  | 67 => ⟨S16384, .i1⟩
  | 68 => ⟨S_, .f32⟩
  | 69 => ⟨S16384, .f32⟩
  | 70 => ⟨S16384, .i1⟩
  | 71 => ⟨S16384, .i1⟩
  | 72 => ⟨S16384, .f32⟩
  | 73 => ⟨S_, .f32⟩
  | 74 => ⟨S16384, .f32⟩
  | 75 => ⟨S16384, .f32⟩
  | _ => ⟨S16384, .f32⟩

abbrev hbmTy (i : Nat) : BufTy := match i / 128 with
  | 0 => hbmTy0_0 i
  | 1 => hbmTy0_1 i
  | 2 => hbmTy0_2 i
  | _ => ⟨S16384, .f32⟩

abbrev bufTy : (tb : Table) → Fin (tcTables nBuf tb) → BufTy
  | .hbm, ⟨i, _⟩ => hbmTy i
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_call2_call0_cst : Ref sig .tc := ⟨.hbm, 69, rfl⟩
abbrev main_call2_call0_v0 : Ref sig .tc := ⟨.hbm, 70, rfl⟩
abbrev main_v47 : Ref sig .tc := ⟨.hbm, 71, rfl⟩
abbrev main_call3_call0_cst : Ref sig .tc := ⟨.hbm, 72, rfl⟩
abbrev main_call3_call0_v0 : Ref sig .tc := ⟨.hbm, 73, rfl⟩
abbrev main_v48 : Ref sig .tc := ⟨.hbm, 74, rfl⟩
abbrev main_c : Ref sig .tc := ⟨.hbm, 75, rfl⟩
abbrev main_call4_v0 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_call5_v0 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_call6_cst : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_v5 : Ref sig .tc := ⟨.hbm, 93, rfl⟩
abbrev main_call6_v6 : Ref sig .tc := ⟨.hbm, 94, rfl⟩
abbrev main_call6_v7 : Ref sig .tc := ⟨.hbm, 95, rfl⟩
abbrev main_call6_v8 : Ref sig .tc := ⟨.hbm, 96, rfl⟩
abbrev main_call6_v9 : Ref sig .tc := ⟨.hbm, 97, rfl⟩
abbrev main_call6_v10 : Ref sig .tc := ⟨.hbm, 98, rfl⟩
abbrev main_call6_v11 : Ref sig .tc := ⟨.hbm, 99, rfl⟩
abbrev main_v55 : Ref sig .tc := ⟨.hbm, 100, rfl⟩
abbrev main_cst_12 : Ref sig .tc := ⟨.hbm, 101, rfl⟩
abbrev main_v56 : Ref sig .tc := ⟨.hbm, 102, rfl⟩
abbrev main_v57 : Ref sig .tc := ⟨.hbm, 103, rfl⟩
abbrev main_cst_13 : Ref sig .tc := ⟨.hbm, 104, rfl⟩
abbrev main_cst_14 : Ref sig .tc := ⟨.hbm, 105, rfl⟩
abbrev main_call7_v0 : Ref sig .tc := ⟨.hbm, 106, rfl⟩
abbrev main_call7_v1 : Ref sig .tc := ⟨.hbm, 107, rfl⟩
abbrev main_call7_v2 : Ref sig .tc := ⟨.hbm, 108, rfl⟩
abbrev main_call7_v3 : Ref sig .tc := ⟨.hbm, 109, rfl⟩
abbrev main_call7_v4 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_c_15 : Ref sig .tc := ⟨.hbm, 117, rfl⟩
abbrev main_v64 : Ref sig .tc := ⟨.hbm, 118, rfl⟩
abbrev main_c_16 : Ref sig .tc := ⟨.hbm, 119, rfl⟩
abbrev main_c_17 : Ref sig .tc := ⟨.hbm, 120, rfl⟩
abbrev main_call8_v0 : Ref sig .tc := ⟨.hbm, 121, rfl⟩
abbrev main_call8_v1 : Ref sig .tc := ⟨.hbm, 122, rfl⟩
abbrev main_call8_v2 : Ref sig .tc := ⟨.hbm, 123, rfl⟩
abbrev main_call8_v3 : Ref sig .tc := ⟨.hbm, 124, rfl⟩
abbrev main_call8_v4 : Ref sig .tc := ⟨.hbm, 125, rfl⟩
abbrev main_v65 : Ref sig .tc := ⟨.hbm, 126, rfl⟩
abbrev main_v66 : Ref sig .tc := ⟨.hbm, 127, rfl⟩
abbrev main_call9_c : Ref sig .tc := ⟨.hbm, 128, rfl⟩
abbrev main_call9_v0 : Ref sig .tc := ⟨.hbm, 129, rfl⟩
abbrev main_call9_v1 : Ref sig .tc := ⟨.hbm, 130, rfl⟩
abbrev main_call9_c_0 : Ref sig .tc := ⟨.hbm, 131, rfl⟩
abbrev main_call9_v2 : Ref sig .tc := ⟨.hbm, 132, rfl⟩
abbrev main_call9_v3 : Ref sig .tc := ⟨.hbm, 133, rfl⟩
abbrev main_call9_v4 : Ref sig .tc := ⟨.hbm, 134, rfl⟩
abbrev main_call9_v5 : Ref sig .tc := ⟨.hbm, 135, rfl⟩
abbrev main_call9_c_1 : Ref sig .tc := ⟨.hbm, 136, rfl⟩
abbrev main_call9_c_2 : Ref sig .tc := ⟨.hbm, 137, rfl⟩
abbrev main_call9_v6 : Ref sig .tc := ⟨.hbm, 138, rfl⟩
abbrev main_call9_v7 : Ref sig .tc := ⟨.hbm, 139, rfl⟩
abbrev main_call9_v8 : Ref sig .tc := ⟨.hbm, 140, rfl⟩
abbrev main_call9_v9 : Ref sig .tc := ⟨.hbm, 141, rfl⟩
abbrev main_call9_v10 : Ref sig .tc := ⟨.hbm, 142, rfl⟩
abbrev main_call9_v11 : Ref sig .tc := ⟨.hbm, 143, rfl⟩
abbrev main_call9_c_3 : Ref sig .tc := ⟨.hbm, 144, rfl⟩
abbrev main_call9_v12 : Ref sig .tc := ⟨.hbm, 145, rfl⟩
abbrev main_call9_v13 : Ref sig .tc := ⟨.hbm, 146, rfl⟩
abbrev main_call9_cst : Ref sig .tc := ⟨.hbm, 147, rfl⟩
abbrev main_call9_v14 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_call10_c : Ref sig .tc := ⟨.hbm, 152, rfl⟩
abbrev main_call10_v0 : Ref sig .tc := ⟨.hbm, 153, rfl⟩
abbrev main_call10_v1 : Ref sig .tc := ⟨.hbm, 154, rfl⟩
abbrev main_call10_c_0 : Ref sig .tc := ⟨.hbm, 155, rfl⟩
abbrev main_call10_v2 : Ref sig .tc := ⟨.hbm, 156, rfl⟩
abbrev main_call10_v3 : Ref sig .tc := ⟨.hbm, 157, rfl⟩
abbrev main_call10_v4 : Ref sig .tc := ⟨.hbm, 158, rfl⟩
abbrev main_call10_v5 : Ref sig .tc := ⟨.hbm, 159, rfl⟩
abbrev main_call10_c_1 : Ref sig .tc := ⟨.hbm, 160, rfl⟩
abbrev main_call10_c_2 : Ref sig .tc := ⟨.hbm, 161, rfl⟩
abbrev main_call10_v6 : Ref sig .tc := ⟨.hbm, 162, rfl⟩
abbrev main_call10_v7 : Ref sig .tc := ⟨.hbm, 163, rfl⟩
abbrev main_call10_v8 : Ref sig .tc := ⟨.hbm, 164, rfl⟩
abbrev main_call10_v9 : Ref sig .tc := ⟨.hbm, 165, rfl⟩
abbrev main_call10_v10 : Ref sig .tc := ⟨.hbm, 166, rfl⟩
abbrev main_call10_v11 : Ref sig .tc := ⟨.hbm, 167, rfl⟩
abbrev main_call10_c_3 : Ref sig .tc := ⟨.hbm, 168, rfl⟩
abbrev main_call10_v12 : Ref sig .tc := ⟨.hbm, 169, rfl⟩
abbrev main_call10_v13 : Ref sig .tc := ⟨.hbm, 170, rfl⟩
abbrev main_call10_cst : Ref sig .tc := ⟨.hbm, 171, rfl⟩
abbrev main_call10_v14 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_call11_c : Ref sig .tc := ⟨.hbm, 176, rfl⟩
abbrev main_call11_v0 : Ref sig .tc := ⟨.hbm, 177, rfl⟩
abbrev main_call11_v1 : Ref sig .tc := ⟨.hbm, 178, rfl⟩
abbrev main_call11_c_0 : Ref sig .tc := ⟨.hbm, 179, rfl⟩
abbrev main_call11_v2 : Ref sig .tc := ⟨.hbm, 180, rfl⟩
abbrev main_call11_v3 : Ref sig .tc := ⟨.hbm, 181, rfl⟩
abbrev main_call11_v4 : Ref sig .tc := ⟨.hbm, 182, rfl⟩
abbrev main_call11_v5 : Ref sig .tc := ⟨.hbm, 183, rfl⟩
abbrev main_call11_c_1 : Ref sig .tc := ⟨.hbm, 184, rfl⟩
abbrev main_call11_c_2 : Ref sig .tc := ⟨.hbm, 185, rfl⟩
abbrev main_call11_v6 : Ref sig .tc := ⟨.hbm, 186, rfl⟩
abbrev main_call11_v7 : Ref sig .tc := ⟨.hbm, 187, rfl⟩
abbrev main_call11_v8 : Ref sig .tc := ⟨.hbm, 188, rfl⟩
abbrev main_call11_v9 : Ref sig .tc := ⟨.hbm, 189, rfl⟩
abbrev main_call11_v10 : Ref sig .tc := ⟨.hbm, 190, rfl⟩
abbrev main_call11_v11 : Ref sig .tc := ⟨.hbm, 191, rfl⟩
abbrev main_call11_c_3 : Ref sig .tc := ⟨.hbm, 192, rfl⟩
abbrev main_call11_v12 : Ref sig .tc := ⟨.hbm, 193, rfl⟩
abbrev main_call11_v13 : Ref sig .tc := ⟨.hbm, 194, rfl⟩
abbrev main_call11_cst : Ref sig .tc := ⟨.hbm, 195, rfl⟩
abbrev main_call11_v14 : Ref sig .tc := ⟨.hbm, 196, rfl⟩
abbrev main_v73 : Ref sig .tc := ⟨.hbm, 197, rfl⟩
abbrev main_v74 : Ref sig .tc := ⟨.hbm, 198, rfl⟩
abbrev main_v75 : Ref sig .tc := ⟨.hbm, 199, rfl⟩
abbrev main_call12_c : Ref sig .tc := ⟨.hbm, 200, rfl⟩
abbrev main_call12_v0 : Ref sig .tc := ⟨.hbm, 201, rfl⟩
abbrev main_call12_v1 : Ref sig .tc := ⟨.hbm, 202, rfl⟩
abbrev main_call12_c_0 : Ref sig .tc := ⟨.hbm, 203, rfl⟩
abbrev main_call12_v2 : Ref sig .tc := ⟨.hbm, 204, rfl⟩
abbrev main_call12_v3 : Ref sig .tc := ⟨.hbm, 205, rfl⟩
abbrev main_call12_v4 : Ref sig .tc := ⟨.hbm, 206, rfl⟩
abbrev main_call12_v5 : Ref sig .tc := ⟨.hbm, 207, rfl⟩
abbrev main_call12_c_1 : Ref sig .tc := ⟨.hbm, 208, rfl⟩
abbrev main_call12_c_2 : Ref sig .tc := ⟨.hbm, 209, rfl⟩
abbrev main_call12_v6 : Ref sig .tc := ⟨.hbm, 210, rfl⟩
abbrev main_call12_v7 : Ref sig .tc := ⟨.hbm, 211, rfl⟩
abbrev main_call12_v8 : Ref sig .tc := ⟨.hbm, 212, rfl⟩
abbrev main_call12_v9 : Ref sig .tc := ⟨.hbm, 213, rfl⟩
abbrev main_call12_v10 : Ref sig .tc := ⟨.hbm, 214, rfl⟩
abbrev main_call12_v11 : Ref sig .tc := ⟨.hbm, 215, rfl⟩
abbrev main_call12_c_3 : Ref sig .tc := ⟨.hbm, 216, rfl⟩
abbrev main_call12_v12 : Ref sig .tc := ⟨.hbm, 217, rfl⟩
abbrev main_call12_v13 : Ref sig .tc := ⟨.hbm, 218, rfl⟩
abbrev main_call12_cst : Ref sig .tc := ⟨.hbm, 219, rfl⟩
abbrev main_call12_v14 : Ref sig .tc := ⟨.hbm, 220, rfl⟩
abbrev main_v76 : Ref sig .tc := ⟨.hbm, 221, rfl⟩
abbrev main_v77 : Ref sig .tc := ⟨.hbm, 222, rfl⟩
abbrev main_v78 : Ref sig .tc := ⟨.hbm, 223, rfl⟩
abbrev main_v79 : Ref sig .tc := ⟨.hbm, 224, rfl⟩
abbrev main_call13_c : Ref sig .tc := ⟨.hbm, 225, rfl⟩
abbrev main_call13_v0 : Ref sig .tc := ⟨.hbm, 226, rfl⟩
abbrev main_call13_v1 : Ref sig .tc := ⟨.hbm, 227, rfl⟩
abbrev main_call13_c_0 : Ref sig .tc := ⟨.hbm, 228, rfl⟩
abbrev main_call13_v2 : Ref sig .tc := ⟨.hbm, 229, rfl⟩
abbrev main_call13_v3 : Ref sig .tc := ⟨.hbm, 230, rfl⟩
abbrev main_call13_v4 : Ref sig .tc := ⟨.hbm, 231, rfl⟩
abbrev main_call13_v5 : Ref sig .tc := ⟨.hbm, 232, rfl⟩
abbrev main_call13_c_1 : Ref sig .tc := ⟨.hbm, 233, rfl⟩
abbrev main_call13_c_2 : Ref sig .tc := ⟨.hbm, 234, rfl⟩
abbrev main_call13_v6 : Ref sig .tc := ⟨.hbm, 235, rfl⟩
abbrev main_call13_v7 : Ref sig .tc := ⟨.hbm, 236, rfl⟩
abbrev main_call13_v8 : Ref sig .tc := ⟨.hbm, 237, rfl⟩
abbrev main_call13_v9 : Ref sig .tc := ⟨.hbm, 238, rfl⟩
abbrev main_call13_v10 : Ref sig .tc := ⟨.hbm, 239, rfl⟩
abbrev main_call13_v11 : Ref sig .tc := ⟨.hbm, 240, rfl⟩
abbrev main_call13_c_3 : Ref sig .tc := ⟨.hbm, 241, rfl⟩
abbrev main_call13_v12 : Ref sig .tc := ⟨.hbm, 242, rfl⟩
abbrev main_call13_v13 : Ref sig .tc := ⟨.hbm, 243, rfl⟩
abbrev main_call13_cst : Ref sig .tc := ⟨.hbm, 244, rfl⟩
abbrev main_call13_v14 : Ref sig .tc := ⟨.hbm, 245, rfl⟩
abbrev main_v80 : Ref sig .tc := ⟨.hbm, 246, rfl⟩
abbrev main_v81 : Ref sig .tc := ⟨.hbm, 247, rfl⟩
abbrev main_c_18 : Ref sig .tc := ⟨.hbm, 248, rfl⟩
abbrev main_v82 : Ref sig .tc := ⟨.hbm, 249, rfl⟩
abbrev main_v83 : Ref sig .tc := ⟨.hbm, 250, rfl⟩
abbrev main_v84 : Ref sig .tc := ⟨.hbm, 251, rfl⟩
abbrev main_call14_c : Ref sig .tc := ⟨.hbm, 252, rfl⟩
abbrev main_call14_v0 : Ref sig .tc := ⟨.hbm, 253, rfl⟩
abbrev main_call14_v1 : Ref sig .tc := ⟨.hbm, 254, rfl⟩
abbrev main_call14_c_0 : Ref sig .tc := ⟨.hbm, 255, rfl⟩
abbrev main_call14_v2 : Ref sig .tc := ⟨.hbm, 256, rfl⟩
abbrev main_call14_v3 : Ref sig .tc := ⟨.hbm, 257, rfl⟩
abbrev main_call14_v4 : Ref sig .tc := ⟨.hbm, 258, rfl⟩
abbrev main_call14_v5 : Ref sig .tc := ⟨.hbm, 259, rfl⟩
abbrev main_call14_c_1 : Ref sig .tc := ⟨.hbm, 260, rfl⟩
abbrev main_call14_c_2 : Ref sig .tc := ⟨.hbm, 261, rfl⟩
abbrev main_call14_v6 : Ref sig .tc := ⟨.hbm, 262, rfl⟩
abbrev main_call14_v7 : Ref sig .tc := ⟨.hbm, 263, rfl⟩
abbrev main_call14_v8 : Ref sig .tc := ⟨.hbm, 264, rfl⟩
abbrev main_call14_v9 : Ref sig .tc := ⟨.hbm, 265, rfl⟩
abbrev main_call14_v10 : Ref sig .tc := ⟨.hbm, 266, rfl⟩
abbrev main_call14_v11 : Ref sig .tc := ⟨.hbm, 267, rfl⟩
abbrev main_call14_c_3 : Ref sig .tc := ⟨.hbm, 268, rfl⟩
abbrev main_call14_v12 : Ref sig .tc := ⟨.hbm, 269, rfl⟩
abbrev main_call14_v13 : Ref sig .tc := ⟨.hbm, 270, rfl⟩
abbrev main_call14_cst : Ref sig .tc := ⟨.hbm, 271, rfl⟩
abbrev main_call14_v14 : Ref sig .tc := ⟨.hbm, 272, rfl⟩
abbrev main_v85 : Ref sig .tc := ⟨.hbm, 273, rfl⟩
abbrev main_v86 : Ref sig .tc := ⟨.hbm, 274, rfl⟩
abbrev main_v87 : Ref sig .tc := ⟨.hbm, 275, rfl⟩
abbrev main_v88 : Ref sig .tc := ⟨.hbm, 276, rfl⟩
abbrev main_cst_19 : Ref sig .tc := ⟨.hbm, 277, rfl⟩
abbrev main_v89 : Ref sig .tc := ⟨.hbm, 278, rfl⟩
abbrev main_v90 : Ref sig .tc := ⟨.hbm, 279, rfl⟩
abbrev main_v91 : Ref sig .tc := ⟨.hbm, 280, rfl⟩
abbrev main_v92 : Ref sig .tc := ⟨.hbm, 281, rfl⟩
abbrev main_v93 : Ref sig .tc := ⟨.hbm, 282, rfl⟩
abbrev main_v94 : Ref sig .tc := ⟨.hbm, 283, rfl⟩
abbrev main_v95 : Ref sig .tc := ⟨.hbm, 284, rfl⟩
abbrev main_v96 : Ref sig .tc := ⟨.hbm, 285, rfl⟩
abbrev main_v97 : Ref sig .tc := ⟨.hbm, 286, rfl⟩
abbrev main_cst_20 : Ref sig .tc := ⟨.hbm, 287, rfl⟩
abbrev main_v98 : Ref sig .tc := ⟨.hbm, 288, rfl⟩
abbrev main_v99 : Ref sig .tc := ⟨.hbm, 289, rfl⟩
abbrev main_v100 : Ref sig .tc := ⟨.hbm, 290, rfl⟩
abbrev main_v101 : Ref sig .tc := ⟨.hbm, 291, rfl⟩
abbrev main_v102 : Ref sig .tc := ⟨.hbm, 292, rfl⟩
abbrev main_v103 : Ref sig .tc := ⟨.hbm, 293, rfl⟩
abbrev main_v104 : Ref sig .tc := ⟨.hbm, 294, rfl⟩
abbrev main_v105 : Ref sig .tc := ⟨.hbm, 295, rfl⟩
abbrev main_v106 : Ref sig .tc := ⟨.hbm, 296, rfl⟩
abbrev main_v107 : Ref sig .tc := ⟨.hbm, 297, rfl⟩
abbrev main_v108 : Ref sig .tc := ⟨.hbm, 298, rfl⟩
abbrev main_cst_21 : Ref sig .tc := ⟨.hbm, 299, rfl⟩
abbrev main_v109 : Ref sig .tc := ⟨.hbm, 300, rfl⟩
abbrev main_v110 : Ref sig .tc := ⟨.hbm, 301, rfl⟩
abbrev main_v111 : Ref sig .tc := ⟨.hbm, 302, rfl⟩
abbrev main_v112 : Ref sig .tc := ⟨.hbm, 303, rfl⟩
abbrev main_v113 : Ref sig .tc := ⟨.hbm, 304, rfl⟩
abbrev main_v114 : Ref sig .tc := ⟨.hbm, 305, rfl⟩
abbrev main_v115 : Ref sig .tc := ⟨.hbm, 306, rfl⟩
abbrev main_v116 : Ref sig .tc := ⟨.hbm, 307, rfl⟩
abbrev main_v117 : Ref sig .tc := ⟨.hbm, 308, rfl⟩
abbrev main_v118 : Ref sig .tc := ⟨.hbm, 309, rfl⟩
abbrev main_cst_22 : Ref sig .tc := ⟨.hbm, 310, rfl⟩
abbrev main_call15_v0 : Ref sig .tc := ⟨.hbm, 311, rfl⟩
abbrev main_call15_v1 : Ref sig .tc := ⟨.hbm, 312, rfl⟩
abbrev main_v119 : Ref sig .tc := ⟨.hbm, 313, rfl⟩
abbrev main_cst_23 : Ref sig .tc := ⟨.hbm, 314, rfl⟩
abbrev main_call16_v0 : Ref sig .tc := ⟨.hbm, 315, rfl⟩
abbrev main_call16_v1 : Ref sig .tc := ⟨.hbm, 316, rfl⟩
abbrev main_v120 : Ref sig .tc := ⟨.hbm, 317, rfl⟩
abbrev main_v121 : Ref sig .tc := ⟨.hbm, 318, rfl⟩
abbrev main_v122 : Ref sig .tc := ⟨.hbm, 319, rfl⟩
abbrev main_v123 : Ref sig .tc := ⟨.hbm, 320, rfl⟩
abbrev main_cst_24 : Ref sig .tc := ⟨.hbm, 321, rfl⟩
abbrev main_v124 : Ref sig .tc := ⟨.hbm, 322, rfl⟩
abbrev main_v125 : Ref sig .tc := ⟨.hbm, 323, rfl⟩
abbrev main_cst_25 : Ref sig .tc := ⟨.hbm, 324, rfl⟩
abbrev main_v126 : Ref sig .tc := ⟨.hbm, 325, rfl⟩
abbrev main_v127 : Ref sig .tc := ⟨.hbm, 326, rfl⟩
abbrev main_v128 : Ref sig .tc := ⟨.hbm, 327, rfl⟩
abbrev main_v129 : Ref sig .tc := ⟨.hbm, 328, rfl⟩
abbrev main_cst_26 : Ref sig .tc := ⟨.hbm, 329, rfl⟩
abbrev main_v130 : Ref sig .tc := ⟨.hbm, 330, rfl⟩
abbrev main_v131 : Ref sig .tc := ⟨.hbm, 331, rfl⟩

abbrev nD : Nat := 1
abbrev τ : Topo := Topo.v7x

variable {F : FTy → Type} [FloatOps F]
-- ==== Proof.Spec.lean ====
module

public import Idealize.ShloMosaic.Lib.IdealHost
public import Mathlib.Algebra.BigOperators.Fin
public import Mathlib.Order.Interval.Finset.Fin
public import Mathlib.Data.EReal.Operations

/-! One row of the problem, as plain mathematics over the extended reals: the conditioner's outputs for a row, the
    bins and slopes they give, the bin that holds the input, and the rational-quadratic piece on that bin. Nothing
    here speaks of either program. -/

@[expose] public section

noncomputable section

namespace Cert.Spline

open Idealize.ShloMosaic

/-- The left end of the spline's interval, minus five. -/
abbrev lo : EReal := Ideal.ofBits .f32 0xC0A00000#32
/-- The right end of the spline's interval, five. -/
abbrev hi : EReal := Ideal.ofBits .f32 0x40A00000#32
/-- The least width, height and slope, a thousandth. -/
abbrev least : EReal := Ideal.ofBits .f32 0x3A83126F#32
/-- The length that the softmax shares out among the bins. -/
abbrev shared : EReal := Ideal.ofBits .f32 0x411DF3B6#32
/-- Two. -/
abbrev two : EReal := Ideal.ofBits .f32 0x40000000#32
/-- The floor under the two logarithms' arguments. -/
abbrev tiny : EReal := Ideal.ofBits .f32 0x2B8CBCCC#32
/-- The value a running maximum starts from. -/
abbrev floor : EReal := Ideal.ofBits .f32 0xFF800000#32

/-! ## The conditioner -/

/-- One output of an affine layer. -/
def affine {n : Nat} (a w : Fin n → EReal) (b : EReal) : EReal := ∑ i, a i * w i + b

/-- One row of the conditioner's output: two hidden layers cut off below at zero, then an affine layer. -/
def params {K : Nat} (c : Fin 512 → EReal) (w0 : Fin 512 → Fin 1024 → EReal) (b0 : Fin 1024 → EReal)
    (w1 : Fin 1024 → Fin 1024 → EReal) (b1 : Fin 1024 → EReal) (w2 : Fin 1024 → Fin K → EReal) (b2 : Fin K → EReal)
    (l : Fin K) : EReal :=
  affine (fun q => max (affine (fun p => max (affine c (fun i => w0 i p) (b0 p)) 0) (fun p => w1 p q) (b1 q)) 0)
    (fun q => w2 q l) (b2 l)

/-! ## Bins and slopes -/

/-- The largest of a row's entries. -/
def peak (a : Fin 128 → EReal) : EReal := Finset.univ.fold max floor a

/-- The bins that a row's entries give: the least size, and a share of the rest by the softmax. -/
def bins (a : Fin 128 → EReal) (j : Fin 128) : EReal :=
  least + shared * Ideal.div (Ideal.exp (a j - peak a)) (∑ k, Ideal.exp (a k - peak a))

/-- The slope at a knot: the least slope and the softplus of the row's entry. -/
def slope (u : EReal) : EReal := least + (max u 0 + Ideal.log1p (Ideal.exp (-max u (-u))))

/-- The sum of the first `n` bins. -/
def sums (w : Fin 128 → EReal) (n : Nat) : EReal := ∑ j : Fin 128 with j.val < n, w j

/-- The `n`-th knot. -/
def knot (w : Fin 128 → EReal) (n : Nat) : EReal := sums w n + lo

/-- The input moved into the spline's interval. -/
def clip (x : EReal) : EReal := min hi (max lo x)

/-- The bin of an input: how many of the knots after the first do not exceed it, the last bin for the last knot. -/
def cell (w : Fin 128 → EReal) (x : EReal) : Nat := min 127 (Finset.univ.filter fun j : Fin 128 => knot w (j.val + 1) ≤ x).card

/-- The bin is at most the last. -/
theorem cell_le (w : Fin 128 → EReal) (x : EReal) : cell w x ≤ 127 := Nat.min_le_left _ _

/-- The bin as an index of the bins. -/
def bin (w : Fin 128 → EReal) (x : EReal) : Fin 128 := ⟨cell w x, Nat.lt_succ_of_le (cell_le w x)⟩

/-! ## The piece on one bin -/

/-- The denominator of the piece: `s` is the bin's mean slope, `t` the place in the bin, `d0` and `d1` the slopes at its ends. -/
def den (s t d0 d1 : EReal) : EReal := s + (d0 + d1 - two * s) * t * (1 - t)

/-- The piece's value, `y0` the lower end and `h` the height of the bin. -/
def value (y0 h s t d0 d1 : EReal) : EReal := y0 + Ideal.div (h * (s * (t * t) + d0 * t * (1 - t))) (den s t d0 d1)

/-- The logarithm of the piece's derivative. -/
def logSlope (s t d0 d1 : EReal) : EReal :=
  Ideal.log (max tiny (s * s * (d1 * (t * t) + two * s * t * (1 - t) + d0 * ((1 - t) * (1 - t)))))
    - Ideal.log (max tiny (den s t d0 d1 * den s t d0 d1))

/-- The first 128 of a row's parameters. -/
def part0 (p : Fin 385 → EReal) (j : Fin 128) : EReal := p ⟨j.val, by omega⟩
/-- The next 128. -/
def part1 (p : Fin 385 → EReal) (j : Fin 128) : EReal := p ⟨128 + j.val, by omega⟩
/-- The last 129. -/
def part2 (p : Fin 385 → EReal) (j : Fin 129) : EReal := p ⟨256 + j.val, by omega⟩

/-- The bin of a row's input. -/
def binOf (p : Fin 385 → EReal) (x : EReal) : Fin 128 := bin (bins (part0 p)) (clip x)
/-- The mean slope on that bin. -/
def meanSlope (p : Fin 385 → EReal) (x : EReal) : EReal := Ideal.div (bins (part1 p) (binOf p x)) (bins (part0 p) (binOf p x))
/-- The place of the input in that bin. -/
def place (p : Fin 385 → EReal) (x : EReal) : EReal :=
  Ideal.div (clip x - knot (bins (part0 p)) (binOf p x).val) (bins (part0 p) (binOf p x))
/-- The slope at the bin's lower end. -/
def slope0 (p : Fin 385 → EReal) (x : EReal) : EReal := slope (part2 p (binOf p x).castSucc)
/-- The slope at the bin's upper end. -/
def slope1 (p : Fin 385 → EReal) (x : EReal) : EReal := slope (part2 p (binOf p x).succ)

/-- The first result of a row: the spline's value inside the interval, the input itself outside. -/
def rowY (p : Fin 385 → EReal) (x : EReal) : EReal :=
  if x < lo ∨ hi < x then x else
    value (knot (bins (part1 p)) (binOf p x).val) (bins (part1 p) (binOf p x)) (meanSlope p x) (place p x) (slope0 p x) (slope1 p x)

/-- The second result of a row: the logarithm of the derivative inside the interval, zero outside. -/
def rowLd (p : Fin 385 → EReal) (x : EReal) : EReal :=
  if x < lo ∨ hi < x then 0 else logSlope (meanSlope p x) (place p x) (slope0 p x) (slope1 p x)

end Cert.Spline
end
end
-- ==== Proof.Order.lean ====
module

public import proofs.«01_k».proof.Proof.Spec

/-! Sums and counts over the bins: that the knots an input has passed are the first ones, and what sums against
    a mask of zeros and ones come to. -/

@[expose] public section

noncomputable section

namespace Cert.Spline

open Idealize.ShloMosaic

/-- The pattern of a thousandth is not negative. -/
theorem least_nonneg : (0 : EReal) ≤ least := by
  simp [least, Ideal.ofBits, Ideal.ieee, -EReal.coe_mul]

/-- The pattern of the shared length is positive. -/
theorem shared_pos : (0 : EReal) < shared := by
  simp [shared, Ideal.ofBits, Ideal.ieee, -EReal.coe_mul]

/-- The pattern of 127 is 127. -/
theorem ofBits_127 : Ideal.ofBits .f32 0x42FE0000#32 = ((127 : ℕ) : EReal) := by
  rw [show ((127 : ℕ) : EReal) = ((127 : ℝ) : EReal) by norm_cast]
  simp [Ideal.ofBits, Ideal.ieee, -EReal.coe_mul]; norm_num

/-- An exponential is not negative. -/
theorem exp_nonneg (x : EReal) : 0 ≤ Ideal.exp x := by
  induction x with
  | bot => exact le_refl _
  | top => exact le_top
  | coe r => exact EReal.coe_nonneg.2 (Real.exp_pos r).le

/-- The bins of a row are all at least zero, or all are minus infinity (when every exponential is zero). -/
theorem bins_cases (a : Fin 128 → EReal) : (∀ j, 0 ≤ bins a j) ∨ ∀ j, bins a j = ⊥ := by
  have hn : ∀ k ∈ (Finset.univ : Finset (Fin 128)), 0 ≤ Ideal.exp (a k - peak a) := fun k _ => exp_nonneg _
  by_cases hs : ∑ k, Ideal.exp (a k - peak a) = 0
  · right
    intro j
    have h0 : Ideal.exp (a j - peak a) = 0 := (Finset.sum_eq_zero_iff_of_nonneg hn).1 hs j (Finset.mem_univ j)
    unfold bins Ideal.div
    rw [if_pos hs, h0, if_neg (lt_irrefl _), EReal.mul_bot_of_pos shared_pos, EReal.add_bot]
  · left
    intro j
    unfold bins Ideal.div
    rw [if_neg hs]
    exact add_nonneg least_nonneg (mul_nonneg shared_pos.le
      (mul_nonneg (exp_nonneg _) (EReal.inv_nonneg_of_nonneg (Finset.sum_nonneg hn))))

/-- An input that has passed a knot has passed every earlier one (but the first, which is not asked about). -/
theorem knot_le_of_le (a : Fin 128 → EReal) (x : EReal) (j k : Fin 128) (hjk : j ≤ k) (hk : knot (bins a) (k.val + 1) ≤ x) :
    knot (bins a) (j.val + 1) ≤ x := by
  rcases bins_cases a with h | h
  · refine le_trans (add_le_add_left ?_ lo) hk
    refine Finset.sum_le_sum_of_subset_of_nonneg (fun i hi => ?_) fun i _ _ => h i
    have hjk' : j.val ≤ k.val := hjk
    simp only [Finset.mem_filter, Finset.mem_univ, true_and] at hi ⊢
    omega
  · have hb : sums (bins a) (j.val + 1) = ⊥ := by
      unfold sums
      rw [← Finset.add_sum_erase _ _ (show j ∈ Finset.univ.filter fun i : Fin 128 => i.val < j.val + 1 by simp), h j, EReal.bot_add]
    unfold knot
    rw [hb, EReal.bot_add]
    exact bot_le

/-- A property of the first indices only holds exactly of the indices below the number of those that have it. -/
theorem iff_lt_card {n : Nat} (Q : Fin n → Prop) [DecidablePred Q] (hQ : ∀ j k, j ≤ k → Q k → Q j) (j : Fin n) :
    Q j ↔ j.val < (Finset.univ.filter Q).card := by
  constructor
  · intro h
    have hsub : Finset.Iic j ⊆ Finset.univ.filter Q := fun i hi => by
      simpa using hQ i j (Finset.mem_Iic.1 hi) h
    have := Finset.card_le_card hsub
    rw [Fin.card_Iic] at this
    omega
  · intro h
    by_contra hj
    have hsub : Finset.univ.filter Q ⊆ Finset.Iio j := fun i hi => by
      rw [Finset.mem_Iio]
      by_contra hij
      exact hj (hQ j i (not_lt.1 hij) (Finset.mem_filter.1 hi).2)
    have := Finset.card_le_card hsub
    rw [Fin.card_Iio] at this
    omega

/-- The knots passed, the last one left out, are those below the bin. -/
theorem passed_iff (a : Fin 128 → EReal) (x : EReal) (j : Fin 128) :
    (knot (bins a) (j.val + 1) ≤ x ∧ j.val < 127) ↔ j.val < cell (bins a) x := by
  rw [iff_lt_card (fun j : Fin 128 => knot (bins a) (j.val + 1) ≤ x) (knot_le_of_le a x) j]
  unfold cell
  omega

/-- Sums against the mask of the first `n` bins. -/
theorem sum_mul_first (w : Fin 128 → EReal) (n : Nat) : ∑ j : Fin 128, w j * (if j.val < n then 1 else 0) = sums w n := by
  unfold sums
  rw [Finset.sum_filter]
  exact Finset.sum_congr rfl fun j _ => by split <;> simp

/-- The mask of the first `n` bins holds `n` ones. -/
theorem sum_first (n : Nat) (hn : n ≤ 128) : ∑ j : Fin 128, (if j.val < n then (1 : EReal) else 0) = (n : EReal) := by
  rw [Finset.sum_boole]
  congr 1
  have := Fin.card_filter_val_lt (n := 128) (m := n)
  omega

/-- A sum against the mask of one bin is that bin's entry. -/
theorem sum_mul_one (w : Fin 128 → EReal) (n : Fin 128) : ∑ j : Fin 128, w j * (if j.val = n.val then 1 else 0) = w n := by
  rw [Finset.sum_eq_single n]
  · rw [if_pos rfl, mul_one]
  · intro j _ hj
    rw [if_neg fun h => hj (Fin.ext h), mul_zero]
  · intro h
    exact absurd (Finset.mem_univ n) h

/-- A sum against the mask of the next bin, with the last knot's entry added when there is no next bin, is the entry of the next knot. -/
theorem sum_mul_next (d : Fin 129 → EReal) (n : Fin 128) :
    ∑ j : Fin 128, d j.castSucc * (if j.val = n.val + 1 then 1 else 0) + d (Fin.last 128) * (if n.val = 127 then 1 else 0) = d n.succ := by
  by_cases h : n.val = 127
  · rw [if_pos h, mul_one, Finset.sum_eq_zero fun j _ => by rw [if_neg (by omega), mul_zero], zero_add]
    congr 1
    exact Fin.ext (by simp [h])
  · rw [if_neg h, mul_zero, add_zero, sum_mul_one (fun j => d j.castSucc) ⟨n.val + 1, by omega⟩]
    rfl

/-- A bin's end is a natural number, and equal naturals are equal extended reals only. -/
theorem natCast_eq_iff (a b : Nat) : ((a : EReal) = (b : EReal)) ↔ a = b := by
  constructor
  · intro h; exact_mod_cast h
  · intro h; rw [h]

end Cert.Spline
end
end
-- ==== Proof.Words.lean ====
module

public import proofs.«01_k».proof.Proof.Order
public import Idealize.ShloMosaic.Lib.WordCmp

/-! Words as numbers: a comparison's bit and an index's word read as floats, and a choice by the bit of two
    comparisons. -/

@[expose] public section

noncomputable section

namespace Cert.Spline

open Idealize.ShloMosaic

/-- A comparison's bit, widened and read as a float, is one or zero. -/
theorem float_bit (p : Prop) [Decidable p] :
    FloatOps.sitofp (F := Idealize.ShloMosaic.Ideal) .f32 (BitVec.setWidth 32 (BitVec.ofBool (decide p))) = if p then (1 : EReal) else 0 := by
  by_cases h : p
  · simp [h, FloatOps.sitofp]
  · simp [h, FloatOps.sitofp]

/-- A small number's word, read as a float, is the number. -/
theorem float_ofNat (n : Nat) (hn : n < 2 ^ 31) :
    FloatOps.sitofp (F := Idealize.ShloMosaic.Ideal) .f32 (BitVec.ofNat 32 n) = ((n : ℕ) : EReal) := by
  have h := WordCmp.toInt_ofNat_of_lt (w := 32) hn
  simp only [FloatOps.sitofp, h]
  norm_cast

/-- A choice by the bit that says one of two comparisons holds. -/
theorem select_or {α : Type} (p q : Prop) [Decidable p] [Decidable q] (x y : α) :
    Scalar.select (IntOp.ori (BitVec.ofBool (decide p)) (BitVec.ofBool (decide q))) x y = if p ∨ q then x else y := by
  rw [WordCmp.ori_ofBool, ← Bool.decide_or, WordCmp.select_decide]

end Cert.Spline
end
end
-- ==== Proof.KernelRow.lean ====
module

public import proofs.«01_k».proof.Proof.Gen.KernelIdeal.Frame
public import proofs.«01_k».proof.Proof.Words
public import Idealize.ShloMosaic.Lib.Pointwise
public import Idealize.ShloMosaic.Lib.Pipeline.ValueKit

/-! What the kernel's body computes for one row of a block: its outputs at row `r` are the row's results
    (`rowY`, `rowLd`) for the parameters that the conditioner gives for that row. -/

@[expose] public section

set_option maxRecDepth 16384

noncomputable section

namespace Cert.KernelIdeal.Row

open Cert.KernelIdeal Cert.KernelIdeal.Gen Cert.Spline Idealize.ShloMosaic

local notation "𝕀" => Idealize.ShloMosaic.Ideal

variable (x0 : Vec 𝕀 S2048x1 .f32) (x1 : Vec 𝕀 S2048x512 .f32) (x2 : Vec 𝕀 S512x1024 .f32) (x3 : Vec 𝕀 S1x1024 .f32)
  (x4 : Vec 𝕀 S1024x1024 .f32) (x5 : Vec 𝕀 S1x1024 .f32) (x6 : Vec 𝕀 S1024x512 .f32) (x7 : Vec 𝕀 S1x512 .f32)

/-- The parameters of row `r` of a block: the conditioner's first 385 outputs. -/
def rowParams (r : Fin 2048) (l : Fin 385) : EReal :=
  params (fun i => x1 (ix2 r i)) (fun i k => x2 (ix2 i k)) (fun k => x3 (ix2 0 k)) (fun i k => x4 (ix2 i k)) (fun k => x5 (ix2 0 k))
    (fun i (k : Fin 385) => x6 (ix2 i (Fin.castLE (by decide) k))) (fun k => x7 (ix2 0 (Fin.castLE (by decide) k))) l

/-! ## The stages of the spline, each from what the stage before gives at the row -/

section Stages

variable (r : Fin 2048)

/-- The conditioner's outputs below column 385. -/
theorem out_at (l : Fin 385) (l' : Fin 512) (hl : l'.val = l.val) :
    k0_pay4 (View.ld x1 r0_0) (View.ld x2 r0_1) (View.ld x3 r0_2) (View.ld x4 r0_3) (View.ld x5 r0_2) (View.ld x6 r0_4) (View.ld x7 r0_5)
      (ix2 r l') = rowParams x1 x2 x3 x4 x5 x6 x7 r l := by
  obtain rfl : l' = Fin.castLE (by decide) l := Fin.ext hl
  pointwise [k0_pay4]
  rfl

/-- The triangle of ones. -/
theorem tri_at (k l : Fin 128) : k0_pay5 (F := 𝕀) (ix2 k l) = if k.val < l.val + 1 then (1 : EReal) else 0 := by
  pointwise [k0_pay5]
  rw [WordCmp.cmpi_sle_ofNat (by omega) (by omega), float_bit]
  exact if_congr (by omega) rfl rfl

/-- The widths, from the first slice and its row maximum. -/
theorem widths_at (a : FVec 𝕀 S2048x128 .f32) (mx : FVec 𝕀 S2048x1 .f32) (f : Fin 128 → EReal) (ha : ∀ j, a (ix2 r j) = f j)
    (hm : mx (ix2 r 0) = peak f) (j : Fin 128) : k0_pay12 a mx (ix2 r j) = bins f j := by
  pointwise [k0_pay12]
  simp only [ha, hm]
  rfl

/-- The heights, from the second slice. -/
theorem heights_at (a : FVec 𝕀 S2048x128 .f32) (f : Fin 128 → EReal) (ha : ∀ j, a (ix2 r j) = f j) (j : Fin 128) :
    k0_pay13 a (ix2 r j) = bins f j := by
  pointwise [k0_pay13]
  simp only [ha]
  rfl

/-- The running sums of the widths. -/
theorem sums_at (a : FVec 𝕀 S2048x128 .f32) (mx : FVec 𝕀 S2048x1 .f32) (w : Fin 128 → EReal) (ha : ∀ j, k0_pay12 a mx (ix2 r j) = w j)
    (j : Fin 128) : k0_pay14 (k0_pay5 (F := 𝕀)) a mx (ix2 r j) = sums w (j.val + 1) := by
  pointwise [k0_pay14]
  simp only [ha, tri_at]
  exact sum_mul_first w (j.val + 1)

/-- The slopes at the first 128 knots. -/
theorem slopes_at (a : FVec 𝕀 S2048x128 .f32) (j : Fin 128) : k0_pay15 a (ix2 r j) = slope (a (ix2 r j)) := by
  pointwise [k0_pay15]
  rw [if_neg (not_not_intro rfl), zero_sub]
  rfl

/-- The slope at the last knot. -/
theorem slope_last_at (a : FVec 𝕀 S2048x1 .f32) :
    k0_pay20 (k0_pay16 a) (k0_pay17 a) (k0_pay18 a) (k0_pay19 a) (ix2 r 0) = slope (a (ix2 r 0)) := by
  pointwise [k0_pay20, k0_pay16, k0_pay17, k0_pay18, k0_pay19]
  rw [if_neg (not_not_intro rfl), zero_sub]
  rfl

/-- The input moved into the interval. -/
theorem clip_at (a : FVec 𝕀 S2048x1 .f32) : k0_pay21 a (ix2 r 0) = clip (a (ix2 r 0)) := by
  pointwise [k0_pay21]
  rfl

variable (a : FVec 𝕀 S2048x1 .f32) (cw : FVec 𝕀 S2048x128 .f32) (f : Fin 128 → EReal)
  (hcw : ∀ j : Fin 128, cw (ix2 r j) = sums (bins f) (j.val + 1))

include hcw

/-- The mask of the bins below the input's. -/
theorem mask_at (j : Fin 128) :
    k0_pay22 a cw (ix2 r j) = if j.val < cell (bins f) (clip (a (ix2 r 0))) then (1 : EReal) else 0 := by
  pointwise [k0_pay22]
  rw [hcw, clip_at, show (127#32) = BitVec.ofNat 32 127 from rfl, WordCmp.cmpi_slt_ofNat (by omega) (by omega), WordCmp.andi_ofBool,
    ← Bool.decide_and, float_bit, add_comm]
  exact if_congr (passed_iff f _ j) rfl rfl

/-- The number of bins below the input's. -/
theorem count_at : k0_pay23 a cw (ix2 r 0) = ((bin (bins f) (clip (a (ix2 r 0)))).val : EReal) := by
  pointwise [k0_pay23]
  simp only [mask_at r a cw f hcw]
  exact sum_first _ ((cell_le _ _).trans (by decide))

/-- The mask of the input's bin. -/
theorem one_at (j : Fin 128) :
    k0_pay25 a cw (ix2 r j) = if j.val = (bin (bins f) (clip (a (ix2 r 0)))).val then (1 : EReal) else 0 := by
  pointwise [k0_pay25, k0_pay24]
  rw [count_at r a cw f hcw, float_ofNat _ (by omega), float_bit]
  exact if_congr (natCast_eq_iff _ _) rfl rfl

/-- The mask of the next bin. -/
theorem next_at (j : Fin 128) :
    k0_pay26 a cw (ix2 r j) = if j.val = (bin (bins f) (clip (a (ix2 r 0)))).val + 1 then (1 : EReal) else 0 := by
  pointwise [k0_pay26, k0_pay24]
  rw [count_at r a cw f hcw, float_ofNat _ (by omega), float_bit]
  exact if_congr (by rw [← natCast_eq_iff]; push_cast; rfl) rfl rfl

/-- The lower end of the input's bin. -/
theorem knot_at (w : FVec 𝕀 S2048x128 .f32) (hw : ∀ j, w (ix2 r j) = bins f j) :
    k0_pay27 a w cw (ix2 r 0) = knot (bins f) (bin (bins f) (clip (a (ix2 r 0)))).val := by
  pointwise [k0_pay27]
  simp only [mask_at r a cw f hcw, hw]
  rw [sum_mul_first, add_comm]
  rfl

/-- The sum of the heights below the input's bin. -/
theorem height_sum_at (h : FVec 𝕀 S2048x128 .f32) (g : Fin 128 → EReal) (hh : ∀ j, h (ix2 r j) = g j) :
    k0_pay28 a h cw (ix2 r 0) = sums g (bin (bins f) (clip (a (ix2 r 0)))).val := by
  pointwise [k0_pay28]
  simp only [mask_at r a cw f hcw, hh]
  rw [sum_mul_first]
  rfl

end Stages

section Piece

variable (r : Fin 2048) (n : Fin 128) (w h d : FVec 𝕀 S2048x128 .f32) (dl cx cnt kn hs : FVec 𝕀 S2048x1 .f32) (one next : FVec 𝕀 S2048x128 .f32)
  (W H : Fin 128 → EReal) (D : Fin 129 → EReal)
  (hw : ∀ j : Fin 128, w (ix2 r j) = W j) (hh : ∀ j : Fin 128, h (ix2 r j) = H j)
  (hd : ∀ j : Fin 128, d (ix2 r j) = D j.castSucc) (hdl : dl (ix2 r 0) = D (Fin.last 128))
  (hcnt : cnt (ix2 r 0) = ((n.val : ℕ) : EReal))
  (hone : ∀ j : Fin 128, one (ix2 r j) = if j.val = n.val then (1 : EReal) else 0)
  (hnext : ∀ j : Fin 128, next (ix2 r j) = if j.val = n.val + 1 then (1 : EReal) else 0)

include hone

include hw in
/-- The width of the bin. -/
theorem width_at : k0_pay30 w one (ix2 r 0) = W n := by
  pointwise [k0_pay30]
  simp only [hw, hone]
  exact sum_mul_one W n

include hh in
/-- The height of the bin. -/
theorem height_at : k0_pay31 h one (ix2 r 0) = H n := by
  pointwise [k0_pay31]
  simp only [hh, hone]
  exact sum_mul_one H n

include hd in
/-- The slope at the bin's lower end. -/
theorem slope0_at : k0_pay32 d one (ix2 r 0) = D n.castSucc := by
  pointwise [k0_pay32]
  simp only [hd, hone]
  exact sum_mul_one (fun j => D j.castSucc) n

omit hone in
include hd hdl hcnt hnext in
/-- The slope at the bin's upper end. -/
theorem slope1_at : k0_pay33 d dl cnt next (ix2 r 0) = D n.succ := by
  pointwise [k0_pay33]
  simp only [hd, hdl, hcnt, hnext]
  rw [ofBits_127, float_bit, if_congr (natCast_eq_iff n.val 127) rfl rfl]
  exact sum_mul_next D n

include hw hh in
/-- The mean slope on the bin. -/
theorem mean_at : k0_pay34 w h one (ix2 r 0) = Ideal.div (H n) (W n) := by
  pointwise [k0_pay34]
  rw [height_at r n h one H hh hone, width_at r n w one W hw hone]

include hw in
/-- The place in the bin. -/
theorem place_at : k0_pay35 w cx one kn (ix2 r 0) = Ideal.div (cx (ix2 r 0) - kn (ix2 r 0)) (W n) := by
  pointwise [k0_pay35]
  rw [width_at r n w one W hw hone]

include hw in
/-- One less the place in the bin. -/
theorem rest_at : k0_pay36 w cx one kn (ix2 r 0) = 1 - Ideal.div (cx (ix2 r 0) - kn (ix2 r 0)) (W n) := by
  pointwise [k0_pay36]
  rw [place_at r n w cx kn one W hw hone]

include hw hh hd hdl hcnt hnext

/-- The denominator of the piece. -/
theorem den_at :
    k0_pay37 w h d dl cx cnt one next kn (ix2 r 0)
      = den (Ideal.div (H n) (W n)) (Ideal.div (cx (ix2 r 0) - kn (ix2 r 0)) (W n)) (D n.castSucc) (D n.succ) := by
  pointwise [k0_pay37]
  rw [mean_at r n w h one W H hw hh hone, place_at r n w cx kn one W hw hone, rest_at r n w cx kn one W hw hone,
    slope0_at r n d one D hd hone, slope1_at r n d dl cnt next D hd hdl hcnt hnext]
  rfl

/-- The piece's value. -/
theorem value_at :
    k0_pay38 w h d dl cx cnt one next kn hs (k0_pay29 (F := 𝕀)) (ix2 r 0)
      = value (hs (ix2 r 0) + lo) (H n) (Ideal.div (H n) (W n)) (Ideal.div (cx (ix2 r 0) - kn (ix2 r 0)) (W n)) (D n.castSucc) (D n.succ) := by
  pointwise [k0_pay38, k0_pay29]
  rw [mean_at r n w h one W H hw hh hone, place_at r n w cx kn one W hw hone, rest_at r n w cx kn one W hw hone,
    slope0_at r n d one D hd hone, height_at r n h one H hh hone,
    den_at r n w h d dl cx cnt kn one next W H D hw hh hd hdl hcnt hone hnext, add_comm (Ideal.ofBits _ _), mul_assoc (Ideal.div (H n) (W n))]
  rfl

/-- The numerator of the derivative. -/
theorem num_at :
    k0_pay39 w h d dl cx cnt one next kn (ix2 r 0)
      = Ideal.div (H n) (W n) * Ideal.div (H n) (W n)
        * (D n.succ * (Ideal.div (cx (ix2 r 0) - kn (ix2 r 0)) (W n) * Ideal.div (cx (ix2 r 0) - kn (ix2 r 0)) (W n))
          + two * Ideal.div (H n) (W n) * Ideal.div (cx (ix2 r 0) - kn (ix2 r 0)) (W n) * (1 - Ideal.div (cx (ix2 r 0) - kn (ix2 r 0)) (W n))
          + D n.castSucc * ((1 - Ideal.div (cx (ix2 r 0) - kn (ix2 r 0)) (W n)) * (1 - Ideal.div (cx (ix2 r 0) - kn (ix2 r 0)) (W n)))) := by
  pointwise [k0_pay39]
  rw [mean_at r n w h one W H hw hh hone, place_at r n w cx kn one W hw hone, rest_at r n w cx kn one W hw hone,
    slope0_at r n d one D hd hone, slope1_at r n d dl cnt next D hd hdl hcnt hnext, mul_assoc (D n.succ), mul_assoc (D n.castSucc)]

/-- The square of the denominator. -/
theorem den_sq_at :
    k0_pay40 w h d dl cx cnt one next kn (ix2 r 0)
      = den (Ideal.div (H n) (W n)) (Ideal.div (cx (ix2 r 0) - kn (ix2 r 0)) (W n)) (D n.castSucc) (D n.succ)
        * den (Ideal.div (H n) (W n)) (Ideal.div (cx (ix2 r 0) - kn (ix2 r 0)) (W n)) (D n.castSucc) (D n.succ) := by
  pointwise [k0_pay40]
  rw [den_at r n w h d dl cx cnt kn one next W H D hw hh hd hdl hcnt hone hnext]

end Piece

/-! ## The choice by the interval -/

section Choice

variable (r : Fin 2048) (x y z : FVec 𝕀 S2048x1 .f32)

/-- The first output takes the input outside the interval. -/
theorem choice_y_at : k0_pay2 x y (ix2 r 0) = if (x (ix2 r 0) : EReal) < lo ∨ hi < x (ix2 r 0) then x (ix2 r 0) else y (ix2 r 0) := by
  pointwise [k0_pay2, k0_pay1]
  exact select_or _ _ _ _

/-- The second output is zero outside the interval, and the difference of the two logarithms inside. -/
theorem choice_ld_at :
    k0_pay3 x y z (ix2 r 0) = if (x (ix2 r 0) : EReal) < lo ∨ hi < x (ix2 r 0) then (0 : EReal) else
      Ideal.log (max tiny (y (ix2 r 0))) - Ideal.log (max tiny (z (ix2 r 0))) := by
  pointwise [k0_pay3, k0_pay1]
  rw [max_comm (y (ix2 r 0)), max_comm (z (ix2 r 0))]
  exact select_or _ _ _ _

end Choice

/-! ## The stages over a block -/

section Block

variable (r : Fin 2048)

/-- The row's input. -/
theorem input_row : k0_pay41 x0 x1 x2 x3 x4 x5 x6 x7 (ix2 r 0) = x0 (ix2 r 0) := by
  pointwise [k0_pay41, k0_pay6]

/-- The first slice of the row's parameters. -/
theorem slice0_row (j : Fin 128) :
    k0_pay42 x0 x1 x2 x3 x4 x5 x6 x7 (ix2 r j) = part0 (rowParams x1 x2 x3 x4 x5 x6 x7 r) j := by
  pointwise [k0_pay42, k0_pay7]
  exact out_at x1 x2 x3 x4 x5 x6 x7 r ⟨j.val, by omega⟩ _ (by simp)

/-- Its row maximum. -/
theorem peak_row : k0_pay44 x0 x1 x2 x3 x4 x5 x6 x7 (ix2 r 0) = peak (part0 (rowParams x1 x2 x3 x4 x5 x6 x7 r)) := by
  pointwise [k0_pay44, k0_pay11]
  exact congrArg (Finset.fold max floor · Finset.univ) (funext fun j => (slice0_row x0 x1 x2 x3 x4 x5 x6 x7 r j))

/-- The last entry of the row's parameters. -/
theorem slice3_row :
    k0_pay43 x0 x1 x2 x3 x4 x5 x6 x7 (ix2 r 0) = part2 (rowParams x1 x2 x3 x4 x5 x6 x7 r) (Fin.last 128) := by
  pointwise [k0_pay43, k0_pay10]
  exact out_at x1 x2 x3 x4 x5 x6 x7 r ⟨384, by omega⟩ _ (by simp)

/-- The row's widths. -/
theorem widths_row (j : Fin 128) :
    k0_pay45 x0 x1 x2 x3 x4 x5 x6 x7 (ix2 r j) = bins (part0 (rowParams x1 x2 x3 x4 x5 x6 x7 r)) j :=
  widths_at r _ _ _ (slice0_row x0 x1 x2 x3 x4 x5 x6 x7 r) (peak_row x0 x1 x2 x3 x4 x5 x6 x7 r) j

/-- The row's heights. -/
theorem heights_row (j : Fin 128) :
    k0_pay46 x0 x1 x2 x3 x4 x5 x6 x7 (ix2 r j) = bins (part1 (rowParams x1 x2 x3 x4 x5 x6 x7 r)) j :=
  heights_at r _ _ (fun j => by
    pointwise [k0_pay8]
    exact out_at x1 x2 x3 x4 x5 x6 x7 r ⟨128 + j.val, by omega⟩ _ (by simp)) j

/-- The row's running sums of widths. -/
theorem sums_row (j : Fin 128) :
    k0_pay47 x0 x1 x2 x3 x4 x5 x6 x7 (ix2 r j) = sums (bins (part0 (rowParams x1 x2 x3 x4 x5 x6 x7 r))) (j.val + 1) :=
  sums_at r _ _ _ (widths_row x0 x1 x2 x3 x4 x5 x6 x7 r) j

/-- The row's slopes at the first 128 knots. -/
theorem slopes_row (j : Fin 128) :
    k0_pay48 x0 x1 x2 x3 x4 x5 x6 x7 (ix2 r j) = slope (part2 (rowParams x1 x2 x3 x4 x5 x6 x7 r) j.castSucc) := by
  refine (slopes_at r _ j).trans (congrArg slope ?_)
  pointwise [k0_pay9]
  exact out_at x1 x2 x3 x4 x5 x6 x7 r ⟨256 + j.val, by omega⟩ _ (by simp)

/-- The row's slope at the last knot. -/
theorem slope_last_row :
    k0_pay49 x0 x1 x2 x3 x4 x5 x6 x7 (ix2 r 0) = slope (part2 (rowParams x1 x2 x3 x4 x5 x6 x7 r) (Fin.last 128)) :=
  (slope_last_at r _).trans (congrArg slope (slice3_row x0 x1 x2 x3 x4 x5 x6 x7 r))

/-- The row's input moved into the interval. -/
theorem clip_row : k0_pay50 x0 x1 x2 x3 x4 x5 x6 x7 (ix2 r 0) = clip (x0 (ix2 r 0)) :=
  (clip_at r _).trans (congrArg clip (input_row x0 x1 x2 x3 x4 x5 x6 x7 r))

/-- The row's bin, as a float. -/
theorem count_row :
    k0_pay51 x0 x1 x2 x3 x4 x5 x6 x7 (ix2 r 0) = ((binOf (rowParams x1 x2 x3 x4 x5 x6 x7 r) (x0 (ix2 r 0))).val : EReal) := by
  have h := count_at r (k0_pay41 x0 x1 x2 x3 x4 x5 x6 x7) _ _ (sums_row x0 x1 x2 x3 x4 x5 x6 x7 r)
  rwa [input_row] at h

/-- The mask of the row's bin. -/
theorem one_row (j : Fin 128) :
    k0_pay52 x0 x1 x2 x3 x4 x5 x6 x7 (ix2 r j)
      = if j.val = (binOf (rowParams x1 x2 x3 x4 x5 x6 x7 r) (x0 (ix2 r 0))).val then (1 : EReal) else 0 := by
  have h := one_at r (k0_pay41 x0 x1 x2 x3 x4 x5 x6 x7) _ _ (sums_row x0 x1 x2 x3 x4 x5 x6 x7 r) j
  rwa [input_row] at h

/-- The mask of the bin after the row's. -/
theorem next_row (j : Fin 128) :
    k0_pay53 x0 x1 x2 x3 x4 x5 x6 x7 (ix2 r j)
      = if j.val = (binOf (rowParams x1 x2 x3 x4 x5 x6 x7 r) (x0 (ix2 r 0))).val + 1 then (1 : EReal) else 0 := by
  have h := next_at r (k0_pay41 x0 x1 x2 x3 x4 x5 x6 x7) _ _ (sums_row x0 x1 x2 x3 x4 x5 x6 x7 r) j
  rwa [input_row] at h

/-- The lower end of the row's bin. -/
theorem knot_row :
    k0_pay54 x0 x1 x2 x3 x4 x5 x6 x7 (ix2 r 0)
      = knot (bins (part0 (rowParams x1 x2 x3 x4 x5 x6 x7 r))) (binOf (rowParams x1 x2 x3 x4 x5 x6 x7 r) (x0 (ix2 r 0))).val := by
  have h := knot_at r (k0_pay41 x0 x1 x2 x3 x4 x5 x6 x7) _ _ (sums_row x0 x1 x2 x3 x4 x5 x6 x7 r) _ (widths_row x0 x1 x2 x3 x4 x5 x6 x7 r)
  rwa [input_row] at h

/-- The sum of the row's heights below its bin. -/
theorem height_sum_row :
    k0_pay28 (k0_pay41 x0 x1 x2 x3 x4 x5 x6 x7) (k0_pay46 x0 x1 x2 x3 x4 x5 x6 x7) (k0_pay47 x0 x1 x2 x3 x4 x5 x6 x7) (ix2 r 0)
      = sums (bins (part1 (rowParams x1 x2 x3 x4 x5 x6 x7 r))) (binOf (rowParams x1 x2 x3 x4 x5 x6 x7 r) (x0 (ix2 r 0))).val := by
  have h := height_sum_at r (k0_pay41 x0 x1 x2 x3 x4 x5 x6 x7) _ _ (sums_row x0 x1 x2 x3 x4 x5 x6 x7 r) _ _
    (heights_row x0 x1 x2 x3 x4 x5 x6 x7 r)
  rwa [input_row] at h

/-- The first output of the body at row `r` is the row's first result. -/
theorem out_y_row : out0_8 x0 x1 x2 x3 x4 x5 x6 x7 (ix2 r 0) = rowY (rowParams x1 x2 x3 x4 x5 x6 x7 r) (x0 (ix2 r 0)) := by
  frame_out
  rw [choice_y_at, input_row, value_at r _ _ _ _ _ _ _ _ _ _ _ _ _ (fun k => slope (part2 (rowParams x1 x2 x3 x4 x5 x6 x7 r) k)) (widths_row x0 x1 x2 x3 x4 x5 x6 x7 r)
    (heights_row x0 x1 x2 x3 x4 x5 x6 x7 r) (fun j => slopes_row x0 x1 x2 x3 x4 x5 x6 x7 r j) (slope_last_row x0 x1 x2 x3 x4 x5 x6 x7 r)
    (count_row x0 x1 x2 x3 x4 x5 x6 x7 r) (one_row x0 x1 x2 x3 x4 x5 x6 x7 r) (next_row x0 x1 x2 x3 x4 x5 x6 x7 r),
    clip_row, knot_row, height_sum_row]
  rfl

/-- The second output of the body at row `r` is the row's second result. -/
theorem out_ld_row : out0_9 x0 x1 x2 x3 x4 x5 x6 x7 (ix2 r 0) = rowLd (rowParams x1 x2 x3 x4 x5 x6 x7 r) (x0 (ix2 r 0)) := by
  frame_out
  rw [choice_ld_at, input_row, num_at r _ _ _ _ _ _ _ _ _ _ _ _ (fun k => slope (part2 (rowParams x1 x2 x3 x4 x5 x6 x7 r) k)) (widths_row x0 x1 x2 x3 x4 x5 x6 x7 r)
    (heights_row x0 x1 x2 x3 x4 x5 x6 x7 r) (fun j => slopes_row x0 x1 x2 x3 x4 x5 x6 x7 r j) (slope_last_row x0 x1 x2 x3 x4 x5 x6 x7 r)
    (count_row x0 x1 x2 x3 x4 x5 x6 x7 r) (one_row x0 x1 x2 x3 x4 x5 x6 x7 r) (next_row x0 x1 x2 x3 x4 x5 x6 x7 r),
    den_sq_at r _ _ _ _ _ _ _ _ _ _ _ _ (fun k => slope (part2 (rowParams x1 x2 x3 x4 x5 x6 x7 r) k)) (widths_row x0 x1 x2 x3 x4 x5 x6 x7 r)
    (heights_row x0 x1 x2 x3 x4 x5 x6 x7 r) (fun j => slopes_row x0 x1 x2 x3 x4 x5 x6 x7 r j) (slope_last_row x0 x1 x2 x3 x4 x5 x6 x7 r)
    (count_row x0 x1 x2 x3 x4 x5 x6 x7 r) (one_row x0 x1 x2 x3 x4 x5 x6 x7 r) (next_row x0 x1 x2 x3 x4 x5 x6 x7 r),
    clip_row, knot_row]
  rfl

end Block

end Cert.KernelIdeal.Row
end
end
-- ==== Proof.KernelValue.lean ====
module

public import proofs.«01_k».proof.Proof.KernelRow
public import Idealize.ShloMosaic.Lib.Claim
public import Idealize.ShloMosaic.Lib.StableHlo.ReadAt

/-! What the kernel's two result arrays hold after a run: row by row the spline's two results. -/

@[expose] public section

set_option maxRecDepth 16384

noncomputable section

namespace Cert.KernelIdeal.Row

open Cert.KernelIdeal Cert.KernelIdeal.Gen Cert.Spline Idealize.ShloMosaic Idealize.ShloMosaic.TcCoe

local notation "𝕀" => Idealize.ShloMosaic.Ideal

variable (m : (ℓ : Loc nD τ sig) → Buf (Elt 𝕀) ℓ) (c : Dev nD)

/-- The parameters of row `i`, from the launch contents of the arguments. -/
def argParams (i : Fin 16384) : Fin 385 → EReal :=
  params (fun k => m ((c : Thread nD τ).loc main_arg1) (ix2 i k)) (fun j k => m ((c : Thread nD τ).loc main_arg2) (ix2 j k))
    (fun k => m ((c : Thread nD τ).loc main_arg3) (ix1 k)) (fun j k => m ((c : Thread nD τ).loc main_arg4) (ix2 j k))
    (fun k => m ((c : Thread nD τ).loc main_arg5) (ix1 k)) (fun j k => m ((c : Thread nD τ).loc main_arg6) (ix2 j k))
    (fun k => m ((c : Thread nD τ).loc main_arg7) (ix1 k))

/-- The input of row `i`. -/
def argInput (i : Fin 16384) : EReal := m ((c : Thread nD τ).loc main_arg0) (ix1 i)

/-! ## The arrays the region reads, at an index -/

/-- The inputs as a column. -/
theorem V_inputs (i : Fin 16384) : V m c main_call0_v0 (ix2 i 0) = m ((c : Thread nD τ).loc main_arg0) (ix1 i) := by
  unfold V V0
  after_reads_at

/-- The first biases as a row. -/
theorem V_bias0 (k : Fin 1024) : V m c main_call0_v4 (ix2 0 k) = m ((c : Thread nD τ).loc main_arg3) (ix1 k) := by
  unfold V V0
  after_reads_at

/-- The second biases as a row. -/
theorem V_bias1 (k : Fin 1024) : V m c main_call0_v5 (ix2 0 k) = m ((c : Thread nD τ).loc main_arg5) (ix1 k) := by
  unfold V V0
  after_reads_at

/-- The last weights, padded on the right. -/
theorem V_weights2 (i : Fin 1024) (k : Fin 385) :
    V m c main_call0_v1 (ix2 i (Fin.castLE (by decide) k)) = m ((c : Thread nD τ).loc main_arg6) (ix2 i k) := by
  unfold V V0
  after_reads_at
  exact dif_pos k.isLt

/-- The last biases, padded on the right. -/
theorem V_bias2 (k : Fin 385) :
    V m c main_call0_v3 (ix2 0 (Fin.castLE (by decide) k)) = m ((c : Thread nD τ).loc main_arg7) (ix1 k) := by
  unfold V V0
  after_reads_at
  exact dif_pos k.isLt

/-! ## The blocks at a grid point, at an index -/

/-- Window 0's block at a grid point is the point's own, along the rows. -/
theorem index0 : ∀ t : Fin cfg0.N, win0_0.index t = ![t.val, 0] := (by decide +kernel : ∀ t : Fin grid0.N, _)
/-- Window 1's block at a grid point is the point's own, along the rows. -/
theorem index1 : ∀ t : Fin cfg0.N, win0_1.index t = ![t.val, 0] := (by decide +kernel : ∀ t : Fin grid0.N, _)
/-- Window 2's block at a grid point is the whole array. -/
theorem index2 : ∀ t : Fin cfg0.N, win0_2.index t = ![0, 0] := (by decide +kernel : ∀ t : Fin grid0.N, _)
/-- Window 3's block at a grid point is the whole array. -/
theorem index3 : ∀ t : Fin cfg0.N, win0_3.index t = ![0, 0] := (by decide +kernel : ∀ t : Fin grid0.N, _)
/-- Window 4's block at a grid point is the whole array. -/
theorem index4 : ∀ t : Fin cfg0.N, win0_4.index t = ![0, 0] := (by decide +kernel : ∀ t : Fin grid0.N, _)
/-- Window 5's block at a grid point is the whole array. -/
theorem index5 : ∀ t : Fin cfg0.N, win0_5.index t = ![0, 0] := (by decide +kernel : ∀ t : Fin grid0.N, _)
/-- Window 6's block at a grid point is the whole array. -/
theorem index6 : ∀ t : Fin cfg0.N, win0_6.index t = ![0, 0] := (by decide +kernel : ∀ t : Fin grid0.N, _)
/-- Window 7's block at a grid point is the whole array. -/
theorem index7 : ∀ t : Fin cfg0.N, win0_7.index t = ![0, 0] := (by decide +kernel : ∀ t : Fin grid0.N, _)
/-- Window 8's block at a grid point is the point's own, along the rows. -/
theorem index8 : ∀ t : Fin cfg0.N, win0_8.index t = ![t.val, 0] := (by decide +kernel : ∀ t : Fin grid0.N, _)
/-- Window 9's block at a grid point is the point's own, along the rows. -/
theorem index9 : ∀ t : Fin cfg0.N, win0_9.index t = ![t.val, 0] := (by decide +kernel : ∀ t : Fin grid0.N, _)

/-- An index of a column is a row. -/
theorem column_ix {n : Nat} (y : (⟨2, ![n, 1]⟩ : Shape).Idx) : ∃ r : Fin n, y = ix2 r 0 :=
  ⟨y 0, funext fun a => by
    match a with
    | ⟨0, _⟩ => rfl
    | ⟨1, _⟩ => exact Subsingleton.elim (α := Fin 1) _ _⟩

/-- An index of a vector is a row. -/
theorem vector_ix {n : Nat} (y : (⟨1, ![n]⟩ : Shape).Idx) : ∃ r : Fin n, y = ix1 r :=
  ⟨y 0, funext fun a => by
    match a with
    | ⟨0, _⟩ => rfl⟩

section Blocks

variable (t : Fin cfg0.N)

/-- The block of inputs: row `r` is row `i` of the array. -/
theorem inputs_at (r : Fin 2048) (i : Fin 16384) (h : i.val = t.val * 2048 + r.val) : iblk m c 0 t (ix2 r 0) = argInput m c i := by
  refine Eq.trans ?_ (V_inputs m c i)
  blk_simp [iblk]
  congr 1
  blk_ext [index0]

/-- The block of conditions. -/
theorem cond_at (r : Fin 2048) (i : Fin 16384) (h : i.val = t.val * 2048 + r.val) (k : Fin 512) :
    iblk m c 1 t (ix2 r k) = m ((c : Thread nD τ).loc main_arg1) (ix2 i k) := by
  refine Eq.trans ?_ (congrFun (V_main_arg1 m c) (ix2 i k))
  blk_simp [iblk]
  congr 1
  blk_ext [index1]

/-- The first weights. -/
theorem weights0_at (j : Fin 512) (k : Fin 1024) : iblk m c 2 t (ix2 j k) = m ((c : Thread nD τ).loc main_arg2) (ix2 j k) := by
  refine Eq.trans ?_ (congrFun (V_main_arg2 m c) (ix2 j k))
  blk_simp [iblk]
  congr 1
  blk_ext [index2]

/-- The first biases. -/
theorem bias0_at (k : Fin 1024) : iblk m c 3 t (ix2 0 k) = m ((c : Thread nD τ).loc main_arg3) (ix1 k) := by
  refine Eq.trans ?_ (V_bias0 m c k)
  blk_simp [iblk]
  congr 1
  blk_ext [index3]

/-- The second weights. -/
theorem weights1_at (j : Fin 1024) (k : Fin 1024) : iblk m c 4 t (ix2 j k) = m ((c : Thread nD τ).loc main_arg4) (ix2 j k) := by
  refine Eq.trans ?_ (congrFun (V_main_arg4 m c) (ix2 j k))
  blk_simp [iblk]
  congr 1
  blk_ext [index4]

/-- The second biases. -/
theorem bias1_at (k : Fin 1024) : iblk m c 5 t (ix2 0 k) = m ((c : Thread nD τ).loc main_arg5) (ix1 k) := by
  refine Eq.trans ?_ (V_bias1 m c k)
  blk_simp [iblk]
  congr 1
  blk_ext [index5]

/-- The last weights below column 385. -/
theorem weights2_at (j : Fin 1024) (k : Fin 385) :
    iblk m c 6 t (ix2 j (Fin.castLE (by decide) k)) = m ((c : Thread nD τ).loc main_arg6) (ix2 j k) := by
  refine Eq.trans ?_ (V_weights2 m c j k)
  blk_simp [iblk]
  congr 1
  blk_ext [index6]

/-- The last biases below column 385. -/
theorem bias2_at (k : Fin 385) :
    iblk m c 7 t (ix2 0 (Fin.castLE (by decide) k)) = m ((c : Thread nD τ).loc main_arg7) (ix1 k) := by
  refine Eq.trans ?_ (V_bias2 m c k)
  blk_simp [iblk]
  congr 1
  blk_ext [index7]

/-- The parameters of row `r` of the block are those of row `i` of the arguments. -/
theorem params_at (r : Fin 2048) (i : Fin 16384) (h : i.val = t.val * 2048 + r.val) :
    rowParams (iblk m c 1 t) (iblk m c 2 t) (iblk m c 3 t) (iblk m c 4 t) (iblk m c 5 t) (iblk m c 6 t) (iblk m c 7 t) r = argParams m c i := by
  funext l
  unfold rowParams argParams
  rw [funext (cond_at m c t r i h), funext₂ (weights0_at m c t), funext (bias0_at m c t), funext₂ (weights1_at m c t),
    funext (bias1_at m c t), funext₂ (weights2_at m c t), funext (bias2_at m c t)]

/-- The first output's block. -/
theorem out_y_at (y : S2048x1.Idx) (i : Fin 16384) (h : i.val = t.val * 2048 + (y 0).val) :
    out0_8 (iblk m c 0 t) (iblk m c 1 t) (iblk m c 2 t) (iblk m c 3 t) (iblk m c 4 t) (iblk m c 5 t) (iblk m c 6 t) (iblk m c 7 t) y
      = rowY (argParams m c i) (argInput m c i) := by
  obtain ⟨r, rfl⟩ : ∃ r : Fin 2048, y = ix2 r 0 := column_ix y
  rw [out_y_row, params_at m c t r i h, inputs_at m c t r i h]

/-- The second output's block. -/
theorem out_ld_at (y : S2048x1.Idx) (i : Fin 16384) (h : i.val = t.val * 2048 + (y 0).val) :
    out0_9 (iblk m c 0 t) (iblk m c 1 t) (iblk m c 2 t) (iblk m c 3 t) (iblk m c 4 t) (iblk m c 5 t) (iblk m c 6 t) (iblk m c 7 t) y
      = rowLd (argParams m c i) (argInput m c i) := by
  obtain ⟨r, rfl⟩ : ∃ r : Fin 2048, y = ix2 r 0 := column_ix y
  rw [out_ld_row, params_at m c t r i h, inputs_at m c t r i h]

end Blocks

/-! ## The arrays the region writes, and the results after it -/

/-- The first output's array after the run. -/
theorem array_y : (dats m 0 c).arrAt 8 (cfgs 0).N = fun i : S16384x1.Idx => rowY (argParams m c (i 0)) (argInput m c (i 0)) := by
  refine (dats m 0 c).arrAt_eq_of_covers 8 _ (by decide +kernel) fun t hf y => ?_
  blk_simp
  rw [after0_8]
  exact out_y_at m c t y _ (by blk_simp [index8])

/-- The second output's array after the run. -/
theorem array_ld : (dats m 0 c).arrAt 9 (cfgs 0).N = fun i : S16384x1.Idx => rowLd (argParams m c (i 0)) (argInput m c (i 0)) := by
  refine (dats m 0 c).arrAt_eq_of_covers 9 _ (by decide +kernel) fun t hf y => ?_
  blk_simp
  rw [after0_9]
  exact out_ld_at m c t y _ (by blk_simp [index9])

/-- The line after the region turns the first column into a vector, -/
theorem tail_y (X : Valuation τ sig (Elt 𝕀)) (i : Fin 16384) :
    StableHlo.after (List.flatten [hostOps1]) X (Proc.devRef .tc main_v0_0) (ix1 i) = X (Proc.devRef .tc main_call0_v6_0) (ix2 i 0) := by
  after_reads_at

/-- and the second. -/
theorem tail_ld (X : Valuation τ sig (Elt 𝕀)) (i : Fin 16384) :
    StableHlo.after (List.flatten [hostOps1]) X (Proc.devRef .tc main_v0_1) (ix1 i) = X (Proc.devRef .tc main_call0_v6_1) (ix2 i 0) := by
  after_reads_at

/-- The first result: the spline's value of every row. -/
def resultY : Buf (Elt 𝕀) ((c : Thread nD τ).loc main_v0_0) := fun i : S16384.Idx => rowY (argParams m c (i 0)) (argInput m c (i 0))
/-- The second result: the logarithm of the derivative of every row. -/
def resultLd : Buf (Elt 𝕀) ((c : Thread nD τ).loc main_v0_1) := fun i : S16384.Idx => rowLd (argParams m c (i 0)) (argInput m c (i 0))

/-- After the last reshape the first result array holds every row's value. -/
theorem after_y : Pipeline.afterTail₀ cfgs (dats m) 0 (V0 m) [hostOps1] c main_v0_0 = resultY m c := by
  funext i
  obtain ⟨k, rfl⟩ : ∃ k : Fin 16384, i = ix1 k := vector_ix i
  refine (tail_y _ k).trans ?_
  refine (congrFun (Pipeline.withArrays_arr spec0 launch0.win.arr_inj c (V0 m c) (fun w => (dats m 0 c).arrAt w (cfgs 0).N) 8) (ix2 k 0)).trans ?_
  exact congrFun (array_y m c) (ix2 k 0)

/-- After the last reshape the second result array holds every row's logarithm. -/
theorem after_ld : Pipeline.afterTail₀ cfgs (dats m) 0 (V0 m) [hostOps1] c main_v0_1 = resultLd m c := by
  funext i
  obtain ⟨k, rfl⟩ : ∃ k : Fin 16384, i = ix1 k := vector_ix i
  refine (tail_ld _ k).trans ?_
  refine (congrFun (Pipeline.withArrays_arr spec0 launch0.win.arr_inj c (V0 m c) (fun w => (dats m 0 c).arrAt w (cfgs 0).N) 9) (ix2 k 0)).trans ?_
  exact congrFun (array_ld m c) (ix2 k 0)

/-- Every run of the kernel ends with the two results of every row in its result arrays. -/
theorem run_results (ρ : Dev nD → PrngReg) : θ_run defs (onTc (τ := τ) (main (F := 𝕀))) ⟨m, fun _ => 0, ρ⟩ (fun r => ∀ c : Dev nD,
      r.2.mem ((c : Thread nD τ).loc main_v0_0) = resultY m c ∧ r.2.mem ((c : Thread nD τ).loc main_v0_1) = resultLd m c) :=
  θ_run_mono (run_main m ρ) fun _ h c =>
    ⟨((h c).2 main_v0_0 (Pipeline.mem_restRefs_of main_v0_0 (by decide) (by decide))).trans (after_y m c),
     ((h c).2 main_v0_1 (Pipeline.mem_restRefs_of main_v0_1 (by decide) (by decide))).trans (after_ld m c)⟩

end Cert.KernelIdeal.Row
end
end
-- ==== Proof.RefOps.lean ====
module

public import proofs.«01_k».proof.Proof.Gen.ReferenceIdeal.Run
public import proofs.«01_k».proof.Proof.Words
public import Idealize.ShloMosaic.Lib.Pointwise
public import Idealize.ShloMosaic.Lib.Tactic.CleanTypes

/-! Three operations of the reference at an index: the running sum of a row (a window sum padded on the left), the
    entry of a row at an index given as a word (a gather along axis 1), and the count of a row's set bits. -/

@[expose] public section

set_option maxRecDepth 16384

noncomputable section

namespace Cert.ReferenceIdeal.Row

open Cert.ReferenceIdeal Cert.ReferenceIdeal.Gen Cert.ReferenceIdeal.Value Cert.Spline Idealize.ShloMosaic

local notation "𝕀" => Idealize.ShloMosaic.Ideal

/-! ## Words -/

/-- The sum of a row's bits, each widened, is the word of their number. -/
theorem fold_count {n : Nat} (P : Fin n → Prop) [DecidablePred P] (s : Finset (Fin n)) :
    s.fold IntOp.addi 0#32 (fun j => BitVec.setWidth 32 (BitVec.ofBool (decide (P j)))) = BitVec.ofNat 32 (s.filter P).card := by
  induction s using Finset.induction with
  | empty => rfl
  | insert a s ha ih =>
    rw [Finset.fold_insert ha, ih, Finset.filter_insert]
    by_cases h : P a
    · rw [if_pos h, Finset.card_insert_of_notMem (fun hm => ha (Finset.mem_filter.1 hm).1), Nat.add_comm, BitVec.ofNat_add]
      simp [h, IntOp.addi]
    · rw [if_neg h]
      simp [h, IntOp.addi]

/-- A small number cut to between 0 and 127 as a signed word. -/
theorem clamp_word (k : Nat) (hk : k < 2 ^ 31) :
    IntOp.minsi 127#32 (IntOp.maxsi 0#32 (BitVec.ofNat 32 k)) = BitVec.ofNat 32 (min 127 k) := by
  have hi : (BitVec.ofNat 32 k).toInt = (k : Int) := WordCmp.toInt_ofNat_of_lt (w := 32) hk
  have h0 : ((BitVec.ofNat 32 k).slt 0#32) = false := by
    simp only [BitVec.slt, hi, BitVec.toInt_zero, decide_eq_false_iff_not]
    omega
  have h1 : (127#32).slt (BitVec.ofNat 32 k) = decide (127 < k) := by
    have h127 : (127#32).toInt = 127 := rfl
    simp only [BitVec.slt, hi, h127]
    exact decide_eq_decide.2 (by omega)
  unfold IntOp.maxsi
  rw [h0, if_neg (by decide)]
  unfold IntOp.minsi
  rw [h1]
  by_cases h : 127 < k
  · rw [decide_eq_true h, if_pos rfl, min_eq_left (by omega)]
  · rw [decide_eq_false h, if_neg (by decide), min_eq_right (by omega)]

/-- A small number's word is not wrapped round. -/
theorem wrap_word (k : Nat) (hk : k < 2 ^ 31) (d : BitVec 32) :
    Scalar.select (IntOp.cmpi .slt (BitVec.ofNat 32 k) 0#32) (IntOp.addi (BitVec.ofNat 32 k) d) (BitVec.ofNat 32 k) = BitVec.ofNat 32 k := by
  rw [show (0#32) = BitVec.ofNat 32 0 from rfl, WordCmp.cmpi_slt_ofNat (by omega) (by omega), WordCmp.select_decide]
  exact if_neg (by omega)

/-- A small number's word is in range. -/
theorem range_word (k n : Nat) (hk : k ≤ n) (hn : n < 2 ^ 31) (f : Fin 1 → BitVec 32) (hf : ∀ x, f x = BitVec.ofNat 32 k) :
    Finset.univ.fold IntOp.andi 1#1 (fun x : Fin 1 => IntOp.andi (IntOp.cmpi .sge (f x) 0#32) (IntOp.cmpi .sle (f x) (BitVec.ofNat 32 n))) = 1#1 := by
  simp only [hf]
  rw [show (0#32) = BitVec.ofNat 32 0 from rfl, WordCmp.cmpi_sge_ofNat (by omega) (by omega), WordCmp.cmpi_sle_ofNat (by omega) (by omega),
    decide_eq_true (Nat.zero_le k), decide_eq_true hk]
  rfl

/-! ## A gather along axis 1 -/

/-- The entry of row `i` at the index that row `i` of the index words names, of 128. -/
theorem gather128 (x : FVec 𝕀 S16384x128 .f32) (idx : IVec S16384x1x1 32) (i : Fin 16384) (k : Fin 128)
    (h : idx (ix3 i 0 0) = BitVec.ofNat 32 k.val) :
    Host.gather gather_S16384x128_S16384x1x1_S16384x1_n_1_0_0_1_2_11 x idx (ix2 i 0) = x (ix2 i k) := by
  unfold Host.gather
  refine congrArg x (funext fun a => Fin.ext ?_)
  set d := gather_S16384x128_S16384x1x1_S16384x1_n_1_0_0_1_2_11 with hd
  show d.start (ix2 i 0) idx a + d.batchCoord (ix2 i 0) a + d.offCoord (ix2 i 0) a = _
  fin_cases a
  · show d.start (ix2 i 0) idx 0 + d.batchCoord (ix2 i 0) 0 + d.offCoord (ix2 i 0) 0 = i.val
    rw [d.start_batching _ _ _ (by decide), d.offCoord_eq_zero _ _ (by decide)]
    unfold GatherDims.batchCoord
    rw [dif_pos (by decide)]
    simp only [Nat.zero_add, Nat.add_zero]
    rfl
  · show d.start (ix2 i 0) idx 1 + d.batchCoord (ix2 i 0) 1 + d.offCoord (ix2 i 0) 1 = k.val
    rw [d.batchCoord_eq_zero _ _ (by decide), d.offCoord_eq_zero _ _ (by decide)]
    have hs : d.siIdx (ix2 i 0) ⟨0, by decide⟩ = ix3 i 0 0 := by
      funext b
      fin_cases b <;> rfl
    unfold GatherDims.start
    rw [dif_pos (by decide)]
    show min (idx (d.siIdx (ix2 i 0) ⟨0, by decide⟩)).toInt.toNat 127 + 0 + 0 = k.val
    rw [hs, h, WordCmp.toInt_ofNat_of_lt (by omega)]
    omega

/-- The entry of row `i` at the index that row `i` of the index words names, of 129. -/
theorem gather129 (x : FVec 𝕀 S16384x129 .f32) (idx : IVec S16384x1x1 32) (i : Fin 16384) (k : Fin 129)
    (h : idx (ix3 i 0 0) = BitVec.ofNat 32 k.val) :
    Host.gather gather_S16384x129_S16384x1x1_S16384x1_n_1_0_0_1_2_11 x idx (ix2 i 0) = x (ix2 i k) := by
  unfold Host.gather
  refine congrArg x (funext fun a => Fin.ext ?_)
  set d := gather_S16384x129_S16384x1x1_S16384x1_n_1_0_0_1_2_11 with hd
  show d.start (ix2 i 0) idx a + d.batchCoord (ix2 i 0) a + d.offCoord (ix2 i 0) a = _
  fin_cases a
  · show d.start (ix2 i 0) idx 0 + d.batchCoord (ix2 i 0) 0 + d.offCoord (ix2 i 0) 0 = i.val
    rw [d.start_batching _ _ _ (by decide), d.offCoord_eq_zero _ _ (by decide)]
    unfold GatherDims.batchCoord
    rw [dif_pos (by decide)]
    simp only [Nat.zero_add, Nat.add_zero]
    rfl
  · show d.start (ix2 i 0) idx 1 + d.batchCoord (ix2 i 0) 1 + d.offCoord (ix2 i 0) 1 = k.val
    rw [d.batchCoord_eq_zero _ _ (by decide), d.offCoord_eq_zero _ _ (by decide)]
    have hs : d.siIdx (ix2 i 0) ⟨0, by decide⟩ = ix3 i 0 0 := by
      funext b
      fin_cases b <;> rfl
    unfold GatherDims.start
    rw [dif_pos (by decide)]
    show min (idx (d.siIdx (ix2 i 0) ⟨0, by decide⟩)).toInt.toNat 128 + 0 + 0 = k.val
    rw [hs, h, WordCmp.toInt_ofNat_of_lt (by omega)]
    omega

/-! ## A running sum -/

/-- A left fold of sums is the start and the sum of the list. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window's positions in order are its places along axis 1. -/
theorem window_place : ∀ n : Fin (⟨2, ![1, 128]⟩ : Shape).numel,
    ((⟨2, ![1, 128]⟩ : Shape).rowMajor.symm n 0).val = 0 ∧ ((⟨2, ![1, 128]⟩ : Shape).rowMajor.symm n 1).val = n.val := by
  decide +kernel

/-- The sum over a window of 128 that ends at place `j` is the sum of the entries up to `j`. -/
theorem sum_window (w : Fin 128 → EReal) (j : Fin 128) :
    ∑ n : Fin 128, (if h : 127 ≤ j.val + n.val then w ⟨j.val + n.val - 127, by omega⟩ else 0) = sums w (j.val + 1) := by
  unfold sums
  rw [← Finset.sum_filter_add_sum_filter_not Finset.univ (fun n : Fin 128 => 127 ≤ j.val + n.val)]
  rw [Finset.sum_eq_zero (s := Finset.univ.filter fun n : Fin 128 => ¬ 127 ≤ j.val + n.val)
    (fun n hn => dif_neg (Finset.mem_filter.1 hn).2), add_zero]
  refine Finset.sum_bij' (fun n hn => ⟨j.val + n.val - 127, by omega⟩) (fun n hn => ⟨n.val + 127 - j.val, ?_⟩) ?_ ?_ ?_ ?_ ?_
  all_goals simp only [Finset.mem_filter, Finset.mem_univ, true_and] at *
  · omega
  · intro a ha; omega
  · intro a ha; omega
  · intro a ha; ext; simp; omega
  · intro a ha; ext; simp; omega
  · intro a ha; exact dif_pos ha

/-- The window sum of the reference along a row is the row's running sum. -/
theorem cumsum_at (x : FVec 𝕀 S16384x128 .f32) (init : FVec 𝕀 S_ .f32) (hinit : ∀ z, init z = (0 : EReal))
    (h : S16384x128.ReduceWindows ![1, 128] ![1, 1] ![0, 127] ![0, 0] S16384x128) (hu : 0 < S_.numel) (i : Fin 16384) (j : Fin 128) :
    Host.reduceWindowAdd ![1, 128] ![1, 1] ![0, 127] ![0, 0] x init h hu (ix2 i j) = sums (fun k => x (ix2 i k)) (j.val + 1) := by
  unfold Host.reduceWindowAdd
  rw [hinit]
  simp only [Ideal.hostReduceWindowAdd_def]
  unfold Ideal.hostReduceWindowAdd Host.reduceWindow
  dsimp only
  refine (foldl_add _ _ _).trans ?_
  rw [zero_add, ← sum_window]
  rw [← List.ofFn_eq_map, List.sum_ofFn]
  refine Finset.sum_congr rfl fun n _ => ?_
  obtain ⟨h0, h1⟩ := window_place n
  by_cases hn : 127 ≤ j.val + n.val
  · rw [dif_pos hn, dif_pos]
    · refine congrArg x (funext fun a => Fin.ext ?_)
      fin_cases a
      · show i.val * 1 + ((⟨2, ![1, 128]⟩ : Shape).rowMajor.symm n 0).val - 0 = i.val
        rw [h0]; omega
      · show j.val * 1 + ((⟨2, ![1, 128]⟩ : Shape).rowMajor.symm n 1).val - 127 = j.val + n.val - 127
        rw [h1]; omega
    · intro a
      fin_cases a
      · show 0 ≤ i.val * 1 + ((⟨2, ![1, 128]⟩ : Shape).rowMajor.symm n 0).val ∧ i.val * 1 + ((⟨2, ![1, 128]⟩ : Shape).rowMajor.symm n 0).val - 0 < 16384
        rw [h0]; omega
      · show 127 ≤ j.val * 1 + ((⟨2, ![1, 128]⟩ : Shape).rowMajor.symm n 1).val ∧ j.val * 1 + ((⟨2, ![1, 128]⟩ : Shape).rowMajor.symm n 1).val - 127 < 128
        have hlt : n.val < 128 := n.isLt
        rw [h1]; omega
  · rw [dif_neg hn, dif_neg]
    intro hin
    have := (hin 1).1
    change 127 ≤ j.val * 1 + ((⟨2, ![1, 128]⟩ : Shape).rowMajor.symm n 1).val at this
    rw [h1] at this
    omega

/-! ## The reference's uses of them -/

/-- The knots as the reference forms them: the running sums of the bins' sizes behind a zero, moved to the left end. -/
def knots (x : FVec 𝕀 S16384x128 .f32) : FVec 𝕀 S16384x129 .f32 :=
  addf (pad S16384x129 ![0, 1] ![0, 0] ![0, 0] (Host.reduceWindowAdd ![1, 128] ![1, 1] ![0, 127] ![0, 0] x (broadcastInDim S_ ![] bcast_S_S_ (constant S_ .f32 0x00000000#32)) reduceWindows_S16384x128_S16384x128_w1s1p0_0_w128s1p127_0 h_S_) (sitofp .f32 (constantI S_ 32 0#32)) pads_S16384x128_S16384x129_000_100 h_S_) (broadcastInDim S16384x129 ![] bcast_S_S16384x129 (constant S_ .f32 0xC0A00000#32))

/-- The reference's knots are the knots of each row. -/
theorem knots_at (x : FVec 𝕀 S16384x128 .f32) (i : Fin 16384) (l : Fin 129) : knots x (ix2 i l) = knot (fun k => x (ix2 i k)) l.val := by
  have key : knots x (ix2 i l) = (if h : 1 ≤ l.val ∧ l.val - 1 < 128 then
      Host.reduceWindowAdd ![1, 128] ![1, 1] ![0, 127] ![0, 0] x (broadcastInDim S_ ![] bcast_S_S_ (constant S_ .f32 0x00000000#32)) reduceWindows_S16384x128_S16384x128_w1s1p0_0_w128s1p127_0 h_S_ (ix2 i ⟨l.val - 1, h.2⟩)
      else (FloatOps.sitofp .f32 0#32 : 𝕀 .f32) : EReal) + lo := by
    unfold knots
    pointwise
  rw [key]
  unfold knot
  congr 1
  by_cases h : 1 ≤ l.val ∧ l.val - 1 < 128
  · rw [dif_pos h, cumsum_at _ _ (fun _ => by simp [broadcastInDim, constant])]
    congr 1
    show l.val - 1 + 1 = l.val
    omega
  · have h0 : l.val = 0 := by omega
    rw [dif_neg h, h0, float_ofNat 0 (by norm_num)]
    simp [sums]

/-- Each row's index word, moved up by `d` where it is negative, as a column of index vectors. -/
def wrapped (v : IVec S16384x1 32) (d : BitVec 32) : IVec S16384x1x1 32 :=
  shapeCast _ (select (cmpi .slt v (broadcastInDim S16384x1 ![] bcast_S_S16384x1 (constantI S_ 32 0#32))) (addi v (broadcastInDim S16384x1 ![] bcast_S_S16384x1 (constantI S_ 32 d))) v) shapeCasts_S16384x1_S16384x1x1

/-- A small number's word is left as it is. -/
theorem wrapped_at (v : IVec S16384x1 32) (d : BitVec 32) (i : Fin 16384) (k : Nat) (hk : k < 2 ^ 31)
    (h : v (ix2 i 0) = BitVec.ofNat 32 k) : wrapped v d (ix3 i 0 0) = BitVec.ofNat 32 k := by
  have key : wrapped v d (ix3 i 0 0) = Scalar.select (IntOp.cmpi .slt (v (ix2 i 0)) 0#32) (IntOp.addi (v (ix2 i 0)) d) (v (ix2 i 0)) := by
    unfold wrapped
    pointwise
  rw [key, h, wrap_word k hk]

/-- Each row's entry at an index word, of 128, as the reference takes it. -/
def take128 (x : FVec 𝕀 S16384x128 .f32) (idx : IVec S16384x1x1 32) : FVec 𝕀 S16384 .f32 :=
  shapeCast _ (select (Host.reduce IntOp.andi (andi (cmpi .sge idx (broadcastInDim S16384x1x1 ![] bcast_S_S16384x1x1 (constantI S_ 32 0#32))) (cmpi .sle idx (broadcastInDim S16384x1x1 ![0, 1, 2] bcast_S1x1x1_S16384x1x1_0_1_2 (broadcastInDim S1x1x1 ![2] bcast_S1_S1x1x1_2 (constantI S1 32 127#32))))) (constantI S_ 1 1#1) reducesTo_S16384x1x1_S16384x1_d2 h_S_) (Host.gather gather_S16384x128_S16384x1x1_S16384x1_n_1_0_0_1_2_11 x idx) (broadcastInDim S16384x1 ![] bcast_S_S16384x1 (constant S_ .f32 0x7FC00000#32))) shapeCasts_S16384x1_S16384

/-- Each row's entry at an index word, of 129, as the reference takes it. -/
def take129 (x : FVec 𝕀 S16384x129 .f32) (idx : IVec S16384x1x1 32) : FVec 𝕀 S16384 .f32 :=
  shapeCast _ (select (Host.reduce IntOp.andi (andi (cmpi .sge idx (broadcastInDim S16384x1x1 ![] bcast_S_S16384x1x1 (constantI S_ 32 0#32))) (cmpi .sle idx (broadcastInDim S16384x1x1 ![0, 1, 2] bcast_S1x1x1_S16384x1x1_0_1_2 (broadcastInDim S1x1x1 ![2] bcast_S1_S1x1x1_2 (constantI S1 32 128#32))))) (constantI S_ 1 1#1) reducesTo_S16384x1x1_S16384x1_d2 h_S_) (Host.gather gather_S16384x129_S16384x1x1_S16384x1_n_1_0_0_1_2_11 x idx) (broadcastInDim S16384x1 ![] bcast_S_S16384x1 (constant S_ .f32 0x7FC00000#32))) shapeCasts_S16384x1_S16384

/-- Where the row's index word is a number below 128, the entry taken is the one at that number. -/
theorem take128_at (x : FVec 𝕀 S16384x128 .f32) (idx : IVec S16384x1x1 32) (i : Fin 16384) (k : Fin 128)
    (h : idx (ix3 i 0 0) = BitVec.ofNat 32 k.val) : take128 x idx (ix1 i) = x (ix2 i k) := by
  have key : take128 x idx (ix1 i) = Scalar.select (Finset.univ.fold IntOp.andi 1#1 (fun z : Fin 1 => IntOp.andi (IntOp.cmpi .sge (idx (ix3 i 0 z)) 0#32) (IntOp.cmpi .sle (idx (ix3 i 0 z)) 127#32)))
      (Host.gather gather_S16384x128_S16384x1x1_S16384x1_n_1_0_0_1_2_11 x idx (ix2 i 0)) (Ideal.ofBits .f32 0x7FC00000#32) := by
    unfold take128
    pointwise
  rw [key, range_word k.val 127 (by omega) (by norm_num) (fun z => idx (ix3 i 0 z)) (fun z => by rw [Subsingleton.elim z 0]; exact h),
    gather128 x idx i k h]
  rfl

/-- Where the row's index word is a number below 129, the entry taken is the one at that number. -/
theorem take129_at (x : FVec 𝕀 S16384x129 .f32) (idx : IVec S16384x1x1 32) (i : Fin 16384) (k : Fin 129)
    (h : idx (ix3 i 0 0) = BitVec.ofNat 32 k.val) : take129 x idx (ix1 i) = x (ix2 i k) := by
  have key : take129 x idx (ix1 i) = Scalar.select (Finset.univ.fold IntOp.andi 1#1 (fun z : Fin 1 => IntOp.andi (IntOp.cmpi .sge (idx (ix3 i 0 z)) 0#32) (IntOp.cmpi .sle (idx (ix3 i 0 z)) 128#32)))
      (Host.gather gather_S16384x129_S16384x1x1_S16384x1_n_1_0_0_1_2_11 x idx (ix2 i 0)) (Ideal.ofBits .f32 0x7FC00000#32) := by
    unfold take129
    pointwise
  rw [key, range_word k.val 128 (by omega) (by norm_num) (fun z => idx (ix3 i 0 z)) (fun z => by rw [Subsingleton.elim z 0]; exact h),
    gather129 x idx i k h]
  rfl

end Cert.ReferenceIdeal.Row
end
end
-- ==== Proof.RefRow.lean ====
module

public import proofs.«01_k».proof.Proof.RefOps
public import Idealize.ShloMosaic.Lib.Claim
public import Idealize.ShloMosaic.Lib.Pointwise
public import Idealize.ShloMosaic.Lib.Tactic.CleanTypes

/-! The reference's arrays, row by row: the conditioner's outputs, the bins and slopes, the bin of the input, and at
    last the two results as the problem's own `rowY` and `rowLd`. -/

@[expose] public section

set_option maxRecDepth 16384

noncomputable section

namespace Cert.ReferenceIdeal.Row

open Cert.ReferenceIdeal Cert.ReferenceIdeal.Gen Cert.ReferenceIdeal.Value Cert.Spline Idealize.ShloMosaic Idealize.ShloMosaic.StableHlo Idealize.SL.Sem

local notation "𝕀" => Idealize.ShloMosaic.Ideal

variable (V : Valuation τ sig (Elt Ideal))

/-- The parameters of row `i` that the reference's arguments give. -/
def refParams (i : Fin 16384) : Fin 385 → EReal :=
  params (fun k => V (Proc.devRef .tc main_arg1) (ix2 i k)) (fun k p => V (Proc.devRef .tc main_arg2) (ix2 k p))
    (fun p => V (Proc.devRef .tc main_arg3) (ix1 p)) (fun p q => V (Proc.devRef .tc main_arg4) (ix2 p q))
    (fun q => V (Proc.devRef .tc main_arg5) (ix1 q)) (fun q l => V (Proc.devRef .tc main_arg6) (ix2 q l))
    (fun l => V (Proc.devRef .tc main_arg7) (ix1 l))

/-- The input of row `i`. -/
def refInput (i : Fin 16384) : EReal := V (Proc.devRef .tc main_arg0) (ix1 i)

/-! ## The conditioner, the bins and the slopes -/

/-- The conditioner's output at row `i` is the row's parameters. -/
theorem v13_at (i : Fin 16384) (l : Fin 385) : res_main_v13 V (ix2 i l) = refParams V i l := by
  unfold res_main_v13; clean_types
  unfold refParams params affine
  pointwise

/-- The first slice of the parameters. -/
theorem v14_at (i : Fin 16384) (j : Fin 128) : res_main_v14 V (ix2 i j) = part0 (refParams V i) j := by
  refine Eq.trans ?_ (v13_at V i ⟨j.val, by omega⟩)
  unfold res_main_v14; clean_types
  pointwise

/-- The second slice. -/
theorem v15_at (i : Fin 16384) (j : Fin 128) : res_main_v15 V (ix2 i j) = part1 (refParams V i) j := by
  refine Eq.trans ?_ (v13_at V i ⟨128 + j.val, by omega⟩)
  unfold res_main_v15; clean_types
  pointwise

/-- The third slice. -/
theorem v16_at (i : Fin 16384) (l : Fin 129) : res_main_v16 V (ix2 i l) = part2 (refParams V i) l := by
  refine Eq.trans ?_ (v13_at V i ⟨256 + l.val, by omega⟩)
  unfold res_main_v16; clean_types
  pointwise

/-- The reference's bins: as the problem's, with the peak once more held above the value the maximum starts from. -/
def softAt (a : Fin 128 → EReal) (j : Fin 128) : EReal :=
  least + shared * Ideal.div (Ideal.exp (a j - max Spline.floor (Finset.univ.fold max Spline.floor a)))
    (∑ k, Ideal.exp (a k - max Spline.floor (Finset.univ.fold max Spline.floor a)))

/-- Holding the peak above the start once more changes nothing. -/
theorem softAt_eq (a : Fin 128 → EReal) (j : Fin 128) : softAt a j = bins a j := by
  unfold softAt
  rw [max_eq_right ((Finset.le_fold_max _).2 (Or.inl le_rfl))]
  rfl

/-- The exponentials of a row's entries less their peak, as the reference forms them. -/
def exps (a : FVec 𝕀 S16384x128 .f32) : FVec 𝕀 S16384x128 .f32 :=
  Host.exp (subf a (broadcastInDim S16384x128 ![0, 1] bcast_S16384x1_S16384x128_0_1 (broadcastInDim S16384x1 ![0] bcast_S16384_S16384x1_0 (maximumf (broadcastInDim S16384 ![] bcast_S_S16384 (constant S_ .f32 0xFF800000#32)) (Host.reduce FloatOps.maximumf a (constant S_ .f32 0xFF800000#32) reducesTo_S16384x128_S16384_d1 h_S_)))))

/-- Each entry's share of its row's sum, scaled and moved up by the least size, as the reference forms it. -/
def shares (e : FVec 𝕀 S16384x128 .f32) : FVec 𝕀 S16384x128 .f32 :=
  addf (broadcastInDim S16384x128 ![] bcast_S_S16384x128 (constant S_ .f32 0x3A83126F#32)) (mulf (broadcastInDim S16384x128 ![] bcast_S_S16384x128 (constant S_ .f32 0x411DF3B6#32)) (Host.divf e (broadcastInDim S16384x128 ![0, 1] bcast_S16384x1_S16384x128_0_1 (broadcastInDim S16384x1 ![0] bcast_S16384_S16384x1_0 (Host.reduceAdd e (constant S_ .f32 0x00000000#32) reducesTo_S16384x128_S16384_d1 h_S_)))))

/-- The exponential of a difference from a number for each row. -/
theorem exp_sub_at (a : FVec 𝕀 S16384x128 .f32) (m : FVec 𝕀 S16384 .f32) (i : Fin 16384) (j : Fin 128) :
    Host.exp (subf a (broadcastInDim S16384x128 ![0, 1] bcast_S16384x1_S16384x128_0_1 (broadcastInDim S16384x1 ![0] bcast_S16384_S16384x1_0 m))) (ix2 i j)
      = Ideal.exp ((fun z : EReal => z - m (ix1 i)) (a (ix2 i j))) := by
  pointwise

/-- The maximum along a row. -/
theorem row_max_at (a : FVec 𝕀 S16384x128 .f32) (i : Fin 16384) :
    Host.reduce FloatOps.maximumf a (constant S_ .f32 0xFF800000#32) reducesTo_S16384x128_S16384_d1 h_S_ (ix1 i)
      = Finset.univ.fold max Spline.floor (fun j => (a (ix2 i j) : EReal)) := by
  pointwise

/-- A number for each row, held above the value the maximum starts from. -/
theorem max_floor_at (r : FVec 𝕀 S16384 .f32) (i : Fin 16384) :
    maximumf (broadcastInDim S16384 ![] bcast_S_S16384 (constant S_ .f32 0xFF800000#32)) r (ix1 i) = max Spline.floor (r (ix1 i) : EReal) := by
  pointwise

/-- The sum along a row. -/
theorem row_sum_at (e : FVec 𝕀 S16384x128 .f32) (i : Fin 16384) :
    Host.reduceAdd e (constant S_ .f32 0x00000000#32) reducesTo_S16384x128_S16384_d1 h_S_ (ix1 i) = ∑ j, (e (ix2 i j) : EReal) := by
  pointwise

/-- The share of a number for each row, scaled and moved up. -/
theorem share_at (e : FVec 𝕀 S16384x128 .f32) (d : FVec 𝕀 S16384 .f32) (i : Fin 16384) (j : Fin 128) :
    addf (broadcastInDim S16384x128 ![] bcast_S_S16384x128 (constant S_ .f32 0x3A83126F#32)) (mulf (broadcastInDim S16384x128 ![] bcast_S_S16384x128 (constant S_ .f32 0x411DF3B6#32)) (Host.divf e (broadcastInDim S16384x128 ![0, 1] bcast_S16384x1_S16384x128_0_1 (broadcastInDim S16384x1 ![0] bcast_S16384_S16384x1_0 d)))) (ix2 i j)
      = least + shared * Ideal.div (e (ix2 i j) : EReal) (d (ix1 i)) := by
  pointwise

/-- The exponentials of a row whose entries are `b`. -/
theorem exps_at (a : FVec 𝕀 S16384x128 .f32) (b : Fin 128 → EReal) (i : Fin 16384) (h : ∀ j, a (ix2 i j) = b j) (j : Fin 128) :
    exps a (ix2 i j) = Ideal.exp (b j - max Spline.floor (Finset.univ.fold max Spline.floor b)) := by
  unfold exps
  rw [exp_sub_at, max_floor_at, row_max_at, h]
  simp only [h]

/-- The shares of a row whose entries are `b`. -/
theorem shares_at (e : FVec 𝕀 S16384x128 .f32) (b : Fin 128 → EReal) (i : Fin 16384) (h : ∀ j, e (ix2 i j) = b j) (j : Fin 128) :
    shares e (ix2 i j) = least + shared * Ideal.div (b j) (∑ k, b k) := by
  unfold shares
  rw [share_at, row_sum_at, h]
  simp only [h]

/-- The widths of row `i`. -/
theorem v42_at (i : Fin 16384) (j : Fin 128) : res_main_v42 V (ix2 i j) = bins (part0 (refParams V i)) j := by
  rw [← softAt_eq]
  exact shares_at (res_main_v23 V) _ i (exps_at (res_main_v14 V) _ i (v14_at V i)) j

/-- The heights of row `i`. -/
theorem v46_at (i : Fin 16384) (j : Fin 128) : res_main_v46 V (ix2 i j) = bins (part1 (refParams V i)) j := by
  rw [← softAt_eq]
  exact shares_at (res_main_v34 V) _ i (exps_at (res_main_v15 V) _ i (v15_at V i)) j

/-- The slopes of row `i`. -/
theorem v57_at (i : Fin 16384) (l : Fin 129) : res_main_v57 V (ix2 i l) = slope (part2 (refParams V i) l) := by
  rw [← v16_at]
  unfold res_main_v57 res_main_call6_v3 res_main_call6_cst; clean_types
  pointwise
  rw [if_neg (fun h => h rfl)]
  rfl

/-! ## The input's bin -/

/-- The input of row `i` moved into the interval. -/
theorem v58_at (i : Fin 16384) : res_main_v58 V (ix1 i) = clip (refInput V i) := by
  unfold res_main_v58; clean_types
  unfold clip refInput
  pointwise
  rfl

/-- The knots of row `i` along the input. -/
theorem v51_at (i : Fin 16384) (l : Fin 129) : res_main_v51 V (ix2 i l) = knot (bins (part0 (refParams V i))) l.val := by
  refine (knots_at (res_main_v42 V) i l).trans ?_
  simp only [v42_at]

/-- The number of a row's later knots that do not exceed the input, as the reference counts them. -/
def countAt (y : Fin 129 → EReal) (x : EReal) : BitVec 32 :=
  Finset.univ.fold IntOp.addi 0#32 fun j : Fin 128 => BitVec.setWidth 32 (BitVec.ofBool (decide (y ⟨1 + j.val, by omega⟩ ≤ x)))

/-- The word of row `i`'s bin. -/
theorem v65_at (i : Fin 16384) : res_main_v65 V (ix1 i) = BitVec.ofNat 32 (binOf (refParams V i) (refInput V i)).val := by
  have key : res_main_v65 V (ix1 i) = IntOp.minsi (id (constantI S_ 32 127#32) ix0) (IntOp.maxsi (id (constantI S_ 32 0#32) ix0)
      (countAt (fun l => res_main_v51 V (ix2 i l)) (res_main_v58 V (ix1 i)))) := by
    unfold res_main_v65 countAt; clean_types
    pointwise
  rw [key, v58_at, show (fun l => res_main_v51 V (ix2 i l)) = fun l => knot (bins (part0 (refParams V i))) l.val from funext (v51_at V i)]
  show IntOp.minsi 127#32 (IntOp.maxsi 0#32 _) = _
  unfold countAt
  rw [fold_count, clamp_word _ (lt_of_le_of_lt (Finset.card_le_univ _) (by simp))]
  simp only [Nat.add_comm 1]
  rfl

/-- The word of the knot after row `i`'s bin. -/
theorem v84_at (i : Fin 16384) : res_main_v84 V (ix2 i 0) = BitVec.ofNat 32 (binOf (refParams V i) (refInput V i)).succ.val := by
  have key : res_main_v84 V (ix2 i 0) = IntOp.addi (res_main_v65 V (ix1 i)) 1#32 := by
    unfold res_main_v84; clean_types
    pointwise
  rw [key, v65_at, Fin.val_succ, BitVec.ofNat_add]
  rfl

/-- The word of row `i`'s bin, in a column. -/
theorem v66_at (i : Fin 16384) : res_main_v66 V (ix2 i 0) = BitVec.ofNat 32 (binOf (refParams V i) (refInput V i)).val := by
  rw [← v65_at]
  unfold res_main_v66; clean_types
  pointwise

/-! ## The bin's data -/

/-- The width of the bin of row `i`. -/
theorem v71_at (i : Fin 16384) : res_main_v71 V (ix1 i) = bins (part0 (refParams V i)) (binOf (refParams V i) (refInput V i)) :=
  (take128_at (res_main_v42 V) (res_main_call10_v5 V) i _
    (wrapped_at (res_main_v69 V) 128#32 i _ (by omega) (v66_at V i))).trans (v42_at V i _)

/-- The height of the bin of row `i`. -/
theorem v77_at (i : Fin 16384) : res_main_v77 V (ix1 i) = bins (part1 (refParams V i)) (binOf (refParams V i) (refInput V i)) :=
  (take128_at (res_main_v46 V) (res_main_call12_v5 V) i _
    (wrapped_at (res_main_v75 V) 128#32 i _ (by omega) (v66_at V i))).trans (v46_at V i _)

/-- The slope at the lower end. -/
theorem v81_at (i : Fin 16384) : res_main_v81 V (ix1 i) = slope0 (refParams V i) (refInput V i) :=
  (take129_at (res_main_v57 V) (res_main_call13_v5 V) i (binOf (refParams V i) (refInput V i)).castSucc
    (wrapped_at (res_main_v79 V) 129#32 i _ (by omega) (v66_at V i))).trans (v57_at V i _)

/-- The slope at the upper end. -/
theorem v86_at (i : Fin 16384) : res_main_v86 V (ix1 i) = slope1 (refParams V i) (refInput V i) :=
  (take129_at (res_main_v57 V) (res_main_call14_v5 V) i (binOf (refParams V i) (refInput V i)).succ
    (wrapped_at (res_main_v84 V) 129#32 i _ (by omega) (v84_at V i))).trans (v57_at V i _)

/-- The left end of the bin. -/
theorem left_at (i : Fin 16384) : take129 (res_main_v51 V) (res_main_call9_v5 V) (ix1 i)
    = knot (bins (part0 (refParams V i))) (binOf (refParams V i) (refInput V i)).val :=
  (take129_at (res_main_v51 V) (res_main_call9_v5 V) i (binOf (refParams V i) (refInput V i)).castSucc
    (wrapped_at (res_main_v66 V) 129#32 i _ (by omega) (v66_at V i))).trans (v51_at V i _)

/-- The lower end of the bin. -/
theorem lower_at (i : Fin 16384) : take129 (knots (res_main_v46 V)) (res_main_call11_v5 V) (ix1 i)
    = knot (bins (part1 (refParams V i))) (binOf (refParams V i) (refInput V i)).val := by
  refine (take129_at _ (res_main_call11_v5 V) i (binOf (refParams V i) (refInput V i)).castSucc
    (wrapped_at (res_main_v72 V) 129#32 i _ (by omega) (v66_at V i))).trans ((knots_at _ i _).trans ?_)
  simp only [v46_at]
  rfl

/-- A quotient of arrays at a row. -/
theorem quot_at (a b : FVec 𝕀 S16384 .f32) (i : Fin 16384) :
    Host.divf a b (ix1 i) = Ideal.div (a (ix1 i) : EReal) (b (ix1 i)) := by
  pointwise

/-- A quotient of a difference of arrays at a row. -/
theorem quot_sub_at (a b d : FVec 𝕀 S16384 .f32) (i : Fin 16384) :
    Host.divf (subf a b) d (ix1 i) = Ideal.div ((fun z : EReal => z - b (ix1 i)) (a (ix1 i))) (d (ix1 i)) := by
  pointwise

/-- The mean slope. -/
theorem v78_at (i : Fin 16384) : res_main_v78 V (ix1 i) = meanSlope (refParams V i) (refInput V i) := by
  refine (quot_at (res_main_v77 V) (res_main_v71 V) i).trans ?_
  rw [v77_at, v71_at]
  rfl

/-- The place in the bin. -/
theorem v88_at (i : Fin 16384) : res_main_v88 V (ix1 i) = place (refParams V i) (refInput V i) := by
  refine (quot_sub_at (res_main_v58 V) (take129 (res_main_v51 V) (res_main_call9_v5 V)) (res_main_v71 V) i).trans ?_
  rw [left_at, v58_at, v71_at]
  rfl

/-- What is left of the bin. -/
theorem v90_at (i : Fin 16384) : res_main_v90 V (ix1 i) = 1 - place (refParams V i) (refInput V i) := by
  rw [← v88_at]
  unfold res_main_v90; clean_types
  pointwise

/-- The denominator. -/
theorem v103_at (i : Fin 16384) : res_main_v103 V (ix1 i) = den (meanSlope (refParams V i) (refInput V i)) (place (refParams V i) (refInput V i))
    (slope0 (refParams V i) (refInput V i)) (slope1 (refParams V i) (refInput V i)) := by
  unfold den
  rw [← v90_at, ← v88_at, ← v78_at, ← v81_at, ← v86_at]
  unfold res_main_v103; clean_types
  pointwise

/-! ## The results -/

/-- The bit that says whether row `i`'s input lies outside the interval. -/
theorem v128_at (i : Fin 16384) : res_main_v128 V (ix1 i)
    = IntOp.ori (BitVec.ofBool (decide (refInput V i < lo))) (BitVec.ofBool (decide (hi < refInput V i))) := by
  unfold res_main_v128 refInput; clean_types
  pointwise

/-- The value's quotient, added to the lower end `y0`, at a row. -/
theorem value_at (y0 h s t d0 u n : FVec 𝕀 S16384 .f32) (i : Fin 16384) :
    addf y0 (Host.divf (mulf h (addf (mulf s (mulf t t)) (mulf (mulf d0 t) u))) n) (ix1 i)
      = (fun Y H S T D U N : EReal => Y + Ideal.div (H * (S * (T * T) + D * T * U)) N) (y0 (ix1 i)) (h (ix1 i)) (s (ix1 i)) (t (ix1 i))
        (d0 (ix1 i)) (u (ix1 i)) (n (ix1 i)) := by
  pointwise

/-- The difference of the two logarithms at a row. -/
theorem logSlope_at (s t d0 d1 u n : FVec 𝕀 S16384 .f32) (i : Fin 16384) :
    subf (Host.log (maximumf (broadcastInDim S16384 ![] bcast_S_S16384 (id (constant S_ .f32 0x2B8CBCCC#32))) (mulf (mulf s s) (addf (addf (mulf d1 (mulf t t)) (mulf (mulf (mulf (broadcastInDim S16384 ![] bcast_S_S16384 (constant S_ .f32 0x40000000#32)) s) t) u)) (mulf d0 (mulf u u)))))) (Host.log (maximumf (broadcastInDim S16384 ![] bcast_S_S16384 (id (constant S_ .f32 0x2B8CBCCC#32))) (mulf n n))) (ix1 i)
      = (fun S T D0 D1 U N : EReal => Ideal.log (max tiny (S * S * (D1 * (T * T) + two * S * T * U + D0 * (U * U)))) - Ideal.log (max tiny (N * N)))
        (s (ix1 i)) (t (ix1 i)) (d0 (ix1 i)) (d1 (ix1 i)) (u (ix1 i)) (n (ix1 i)) := by
  pointwise
  rfl

/-- The first result, in the reference's own terms. -/
def refY : FVec 𝕀 S16384 .f32 :=
  select (res_main_v128 V) (V (Proc.devRef .tc main_arg0)) (addf (take129 (knots (res_main_v46 V)) (res_main_call11_v5 V)) (Host.divf (mulf (res_main_v77 V) (addf (mulf (res_main_v78 V) (mulf (res_main_v88 V) (res_main_v88 V))) (mulf (mulf (res_main_v81 V) (res_main_v88 V)) (res_main_v90 V)))) (res_main_v103 V)))

/-- The second result, in the reference's own terms. -/
def refLd : FVec 𝕀 S16384 .f32 :=
  select (res_main_v128 V) (broadcastInDim S16384 ![] bcast_S_S16384 (constant S_ .f32 0x00000000#32)) (subf (Host.log (maximumf (broadcastInDim S16384 ![] bcast_S_S16384 (id (constant S_ .f32 0x2B8CBCCC#32))) (mulf (mulf (res_main_v78 V) (res_main_v78 V)) (addf (addf (mulf (res_main_v86 V) (mulf (res_main_v88 V) (res_main_v88 V))) (mulf (mulf (mulf (broadcastInDim S16384 ![] bcast_S_S16384 (constant S_ .f32 0x40000000#32)) (res_main_v78 V)) (res_main_v88 V)) (res_main_v90 V))) (mulf (res_main_v81 V) (mulf (res_main_v90 V) (res_main_v90 V))))))) (Host.log (maximumf (broadcastInDim S16384 ![] bcast_S_S16384 (id (constant S_ .f32 0x2B8CBCCC#32))) (mulf (res_main_v103 V) (res_main_v103 V)))))

/-- A choice between arrays, at an index. -/
theorem select_at (c : IVec S16384 1) (a b : FVec 𝕀 S16384 .f32) (z : S16384.Idx) : select c a b z = Scalar.select (c z) (a z) (b z) := rfl

/-- The array of zeros, at an index. -/
theorem zero_at (z : S16384.Idx) : broadcastInDim S16384 ![] bcast_S_S16384 (constant (F := Ideal) S_ .f32 0x00000000#32) z = (0 : EReal) := by
  simp [broadcastInDim, constant]

/-- The reference's first result at row `i`. -/
theorem refY_at (i : Fin 16384) : refY V (ix1 i) = rowY (refParams V i) (refInput V i) := by
  unfold refY
  rw [select_at, v128_at, select_or, value_at, lower_at, v77_at, v78_at, v88_at, v81_at, v90_at, v103_at]
  rfl

/-- The reference's second result at row `i`. -/
theorem refLd_at (i : Fin 16384) : refLd V (ix1 i) = rowLd (refParams V i) (refInput V i) := by
  unfold refLd
  rw [select_at, v128_at, select_or, logSlope_at, v78_at, v88_at, v81_at, v86_at, v90_at, v103_at, zero_at]
  rfl

variable (m : (ℓ : Loc nD τ sig) → Buf (Elt Ideal) ℓ) (ρ : Dev nD → PrngReg)

/-- The launch's parameters of row `i` are those of the arguments in memory. -/
theorem refParams_launch (c : Dev nD) (i : Fin 16384) : refParams (launchContents m c) i
    = params (fun k => m ((c.tc : Thread nD τ).loc main_arg1) (ix2 i k)) (fun k p => m ((c.tc : Thread nD τ).loc main_arg2) (ix2 k p))
    (fun p => m ((c.tc : Thread nD τ).loc main_arg3) (ix1 p)) (fun p q => m ((c.tc : Thread nD τ).loc main_arg4) (ix2 p q))
    (fun q => m ((c.tc : Thread nD τ).loc main_arg5) (ix1 q)) (fun q l => m ((c.tc : Thread nD τ).loc main_arg6) (ix2 q l))
    (fun l => m ((c.tc : Thread nD τ).loc main_arg7) (ix1 l)) := rfl

/-- The launch's input of row `i` is the one in memory. -/
theorem refInput_launch (c : Dev nD) (i : Fin 16384) : refInput (launchContents m c) i = m ((c.tc : Thread nD τ).loc main_arg0) (ix1 i) := rfl

/-- The reference's run: its two results are, row by row, `rowY` and `rowLd` of the row's parameters and input, and its arguments stay. -/
theorem run_results : θ_run defs (onTc (τ := τ) (main (F := Ideal))) ⟨m, fun _ => 0, ρ⟩ fun r => ∀ c : Dev nD,
    (∀ i : Fin 16384, r.2.mem ((c.tc : Thread nD τ).loc main_v129) (ix1 i) = rowY (refParams (launchContents m c) i) (refInput (launchContents m c) i))
    ∧ (∀ i : Fin 16384, r.2.mem ((c.tc : Thread nD τ).loc main_v131) (ix1 i) = rowLd (refParams (launchContents m c) i) (refInput (launchContents m c) i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  θ_run_mono (Value.run m ρ) fun r h c =>
    ⟨fun i => (congrFun ((h c).1.trans (show _ = refY (launchContents m c) from rfl)) (ix1 i)).trans (refY_at _ i),
      fun i => (congrFun ((h c).2.1.trans (show _ = refLd (launchContents m c) from rfl)) (ix1 i)).trans (refLd_at _ i), (h c).2.2⟩

end Cert.ReferenceIdeal.Row
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefRow
public import Idealize.ShloMosaic.Lib.Quiescent
public import Idealize.ShloMosaic.Adequacy
public import Idealize.ShloMosaic.Init

/-! The claims: each program leaves its arguments as they were and its semaphores at zero, and on equal arguments the
    kernel and the reference end with equal results. -/

@[expose] public section

noncomputable section

namespace Cert.Proof

open Idealize.ShloMosaic Idealize.ShloMosaic.StableHlo Idealize.SL.Sem

/-- The reference's frame: its arguments stay, and it declares no semaphore. -/
theorem frame_reference : Cert.quiescent_ReferenceIdeal (hReferenceIdeal := Cert.ReferenceIdeal.Gen.facts) := fun m ρ _ =>
  θ_run_mono (Cert.ReferenceIdeal.Row.run_results m ρ) fun r h =>
    ⟨fun c => (h c).2.2, sem_eq_zero_of_no_sems (by decide) r.2⟩

/-- The reference's rows are the kernel's rows where the arguments agree. -/
theorem results_agree : Cert.algebraic_KernelIdeal_ReferenceIdeal (hKernelIdeal := Cert.KernelIdeal.Gen.facts)
    (hReferenceIdeal := Cert.ReferenceIdeal.Gen.facts) := by
  intro m g m' g' _ hagree
  have hp : ∀ c i, Cert.ReferenceIdeal.Row.refParams (launchContents m' c) i = Cert.KernelIdeal.Row.argParams m c i := by
    intro c i
    obtain ⟨-, h1, h2, h3, h4, h5, h6, h7⟩ := hagree c
    rw [Cert.ReferenceIdeal.Row.refParams_launch, h1, h2, h3, h4, h5, h6, h7]
    rfl
  have hx : ∀ c i, Cert.ReferenceIdeal.Row.refInput (launchContents m' c) i = Cert.KernelIdeal.Row.argInput m c i := by
    intro c i
    rw [Cert.ReferenceIdeal.Row.refInput_launch, (hagree c).1]
    rfl
  refine ⟨Cert.KernelIdeal.Row.resultY m, Cert.KernelIdeal.Row.resultLd m, ?_, ?_⟩
  · exact θ_run_mono (θ_run_and (Cert.KernelIdeal.Row.run_results m g) (Cert.KernelIdeal.Gen.unchanged m g)) fun r h c =>
      ⟨(h.1 c).1, (h.1 c).2, h.2 c⟩
  · refine θ_run_mono (Cert.ReferenceIdeal.Row.run_results m' g') fun r h c => ⟨funext fun z => ?_, funext fun z => ?_, (h c).2.2⟩
    · obtain ⟨i, rfl⟩ : ∃ i : Fin 16384, z = ix1 i := Cert.KernelIdeal.Row.vector_ix z
      refine ((h c).1 i).trans ?_
      rw [hp, hx]
      rfl
    · obtain ⟨i, rfl⟩ : ∃ i : Fin 16384, z = ix1 i := Cert.KernelIdeal.Row.vector_ix z
      refine ((h c).2.1 i).trans ?_
      rw [hp, hx]
      rfl

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, results_agree⟩

end Cert.Proof

end
end
